-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4x1024x1024 : Shape := ⟨3, ![4, 1024, 1024]⟩
abbrev S3x2x1024x512 : Shape := ⟨4, ![3, 2, 1024, 512]⟩
abbrev S3x2 : Shape := ⟨2, ![3, 2]⟩
abbrev S4 : Shape := ⟨1, ![4]⟩
abbrev S2 : Shape := ⟨1, ![2]⟩
abbrev S1 : Shape := ⟨1, ![1]⟩
abbrev S_ : Shape := ⟨0, ![]⟩
abbrev S1024x1024 : Shape := ⟨2, ![1024, 1024]⟩
abbrev S1x1024x1024 : Shape := ⟨3, ![1, 1024, 1024]⟩
abbrev S1024x512 : Shape := ⟨2, ![1024, 512]⟩
abbrev S1x1x1024x512 : Shape := ⟨4, ![1, 1, 1024, 512]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1024x2048, .f32⟩
  | .local _ .vmem, ⟨0, _⟩ => ⟨S4x1024x1024, .f32⟩
  | .local _ .vmem, ⟨1, _⟩ => ⟨S1024x2048, .f32⟩
  | .local _ .vmem, ⟨2, _⟩ => ⟨S3x2x1024x512, .f32⟩
  | .local _ .vmem, ⟨3, _⟩ => ⟨S3x2x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_off1 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.addi v2 c_m1_i32
  let c4_i32_14 : BitVec 32 := 4#32
  let v27 : BitVec 32 := Scalar.addi v26 c4_i32_14
  let c4_i32_15 : BitVec 32 := 4#32
  let c0_i32_16 : BitVec 32 := 0#32
  let v28 : BitVec 1 := Scalar.cmpi .eq c4_i32_15 c0_i32_16
  let c1_i32_17 : BitVec 32 := 1#32
  let v29 : BitVec 32 := Scalar.select v28 c1_i32_17 c4_i32_15
  let v30 : BitVec 32 := Scalar.remsi v27 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c1024_i32 : BitVec 32 := 1024#32
  let v38 : BitVec 32 := Scalar.muli v37 c1024_i32
  let c0_i32_30 : BitVec 32 := 0#32
  ![v38.toNat, 0]
def k0_off1_at (r : Fin 4) : BitVec 32 :=
  if r.val < 2 then
    if r.val < 1 then
      4294967295#32
    else
      1#32
  else
    if r.val < 3 then
      4294967294#32
    else
      0#32
def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_32 : BitVec 32 := 1#32
  let v49 : BitVec 32 := Scalar.muli v14 c1_i32_32
  let v50 : BitVec 32 := Scalar.addi c0_i32_33 v49
  v50.toNat
def k0_dev2 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_35 : BitVec 32 := 1#32
  let v51 : BitVec 32 := Scalar.muli v25 c1_i32_35
  let v52 : BitVec 32 := Scalar.addi c0_i32_36 v51
  v52.toNat
def k0_dev3 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_82 : BitVec 32 := 1#32
  let v91 : BitVec 32 := Scalar.muli v25 c1_i32_82
  let v92 : BitVec 32 := Scalar.addi c0_i32_83 v91
  v92.toNat
def k0_dev4 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_104 : BitVec 32 := 1#32
  let v108 : BitVec 32 := Scalar.muli v25 c1_i32_104
  let v109 : BitVec 32 := Scalar.addi c0_i32_105 v108
  v109.toNat
def k0_dev5 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_163 : BitVec 32 := 1#32
  let v170 : BitVec 32 := Scalar.muli v14 c1_i32_163
  let v171 : BitVec 32 := Scalar.addi c0_i32_164 v170
  v171.toNat
def k0_dev6 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_186 : BitVec 32 := 1#32
  let v187 : BitVec 32 := Scalar.muli v14 c1_i32_186
  let v188 : BitVec 32 := Scalar.addi c0_i32_187 v187
  v188.toNat
def k0_dev7 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_286 : BitVec 32 := 1#32
  let v250 : BitVec 32 := Scalar.muli v25 c1_i32_286
  let v251 : BitVec 32 := Scalar.addi c0_i32_287 v250
  v251.toNat
def k0_dev8 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_300 : BitVec 32 := 1#32
  let v260 : BitVec 32 := Scalar.muli v14 c1_i32_300
  let v261 : BitVec 32 := Scalar.addi c0_i32_301 v260
  v261.toNat
def k0_dev9 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_396 : BitVec 32 := 1#32
  let v318 : BitVec 32 := Scalar.muli v25 c1_i32_396
  let v319 : BitVec 32 := Scalar.addi c0_i32_397 v318
  v319.toNat
def k0_dev10 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_410 : BitVec 32 := 1#32
  let v328 : BitVec 32 := Scalar.muli v14 c1_i32_410
  let v329 : BitVec 32 := Scalar.addi c0_i32_411 v328
  v329.toNat
def k0_dev11 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_480 : BitVec 32 := 1#32
  let v374 : BitVec 32 := Scalar.muli v25 c1_i32_480
  let v375 : BitVec 32 := Scalar.addi c0_i32_481 v374
  v375.toNat
def k0_dev12 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_494 : BitVec 32 := 1#32
  let v384 : BitVec 32 := Scalar.muli v14 c1_i32_494
  let v385 : BitVec 32 := Scalar.addi c0_i32_495 v384
  v385.toNat
def k0_dev13 (d0 : Dev nD) : Nat :=
  let c0_i32_565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_564 : BitVec 32 := 1#32
  let v430 : BitVec 32 := Scalar.muli v25 c1_i32_564
  let v431 : BitVec 32 := Scalar.addi c0_i32_565 v430
  v431.toNat
def k0_dev14 (d0 : Dev nD) : Nat :=
  let c0_i32_579 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_578 : BitVec 32 := 1#32
  let v440 : BitVec 32 := Scalar.muli v14 c1_i32_578
  let v441 : BitVec 32 := Scalar.addi c0_i32_579 v440
  v441.toNat
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Proto.lean ====
/-
# The protocol of the ring kernel

Two rings run side by side over four devices. Ring `false` carries the left half of the columns and sends to the
next device, ring `true` carries the right half and sends to the device before. Each ring works on two column
tiles, and each tile makes three hops. This module names the memrefs, the cells and the contents of every hop, and
states the schedule under which the cells are shared: what each credit of a cell hands to the device that waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Memref
public import Idealize.ShloMosaic.Lib.MemrefSat

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost algebra: the launch's copy, the rings' rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rings' rounds live in the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev EC : UEmb Counters (MT nD τ sig Unit (Elt F) ℕ UU ℕ) := countersEmb

/-! ## The two rings -/

/-- The device ring `b` sends to. -/
def fwd (b : Bool) (c : Dev nD) : Dev nD := ⟨(c.val + if b then 3 else 1) % 4, Nat.mod_lt _ (by decide)⟩

theorem fwd_not_fwd (b : Bool) (c : Dev nD) : fwd (!b) (fwd b c) = c := by revert b c; decide
theorem fwd_fwd_not (b : Bool) (c : Dev nD) : fwd b (fwd (!b) c) = c := by revert b c; decide

/-- One step of ring `b` as a permutation of the devices. -/
def ring (b : Bool) : Dev nD ≃ Dev nD := ⟨fwd b, fwd (!b), fwd_not_fwd b, fwd_fwd_not b⟩

/-- The block of rows device `c` works on at hop `h` of ring `b`: `h + 1` steps against the ring. -/
def blk (b : Bool) (h : Fin 4) (c : Dev nD) : Dev nD := ⟨(c.val + (h.val + 1) * if b then 1 else 3) % 4, Nat.mod_lt _ (by decide)⟩

/-! ## The semaphores -/

/-- A transfer cell: whether it is a receive cell, its ring, its hop, its tile. -/
abbrev Cx : Type := Bool × Bool × Fin 3 × Fin 2
/-- A cell: the entry barrier or a transfer cell. -/
abbrev Kx : Type := Option Cx

abbrev barS : Sem sig := (SemArray.scalar (sig.barrier 0 rfl) : Sems sig S_).sem
/-- The DMA semaphore of a transfer cell. -/
def dsem (x : Cx) : DmaSem sig := ⟨(if x.2.1 then 12 else 0) + (if x.1 then 6 else 0) + (2 * x.2.2.1.val + x.2.2.2.val), by
  show _ < 34
  have := x.2.2.1.isLt; have := x.2.2.2.isLt; split <;> split <;> omega⟩

def csem : Kx → SemLoc sig
  | none => .reg barS
  | some x => .dma (dsem x)

/-- The cell a semaphore is, if it is one of the rings'. -/
def kx : SemLoc sig → Option Kx
  | .reg _ => some none
  | .dma i => if i.val < 24 then
      some (some (decide (6 ≤ i.val % 12), decide (12 ≤ i.val), ⟨i.val % 6 / 2, by omega⟩, ⟨i.val % 2, by omega⟩)) else none

theorem kx_csem (k : Kx) : kx (csem k) = some k := by revert k; decide

theorem csem_injective : Function.Injective csem := fun a b h => by
  have := congrArg kx h; rw [kx_csem, kx_csem] at this; exact Option.some.inj this

abbrev cell (c : Dev nD) (k : Kx) : GSem nD τ sig := ((c : Thread nD τ), csem k)
abbrev barC (c : Dev nD) : GSem nD τ sig := cell c none
abbrev sC (b : Bool) (h : Fin 3) (t : Fin 2) (c : Dev nD) : GSem nD τ sig := cell c (some (false, b, h, t))
abbrev rC (b : Bool) (h : Fin 3) (t : Fin 2) (c : Dev nD) : GSem nD τ sig := cell c (some (true, b, h, t))

/-! ## The memrefs -/

/-- The communication buffer of a ring. -/
abbrev commM (b : Bool) : Memref sig .tc .vmem S3x2x1024x512 .f32 :=
  match b with | false => Memref.whole cc0_scratch2 | true => Memref.whole cc0_scratch3

theorem inb_slot (h : Fin 3) (t : Fin 2) (a) : (![h.val, t.val, 0, 0] : Fin 4 → ℕ) a + S1x1x1024x512.size a ≤ S3x2x1024x512.size a := by
  revert h t a; decide
abbrev slotR (h : Fin 3) (t : Fin 2) : Rect S3x2x1024x512 := Rect.unit (s := S3x2x1024x512) ![h.val, t.val, 0, 0] S1x1x1024x512.size (inb_slot h t)
/-- The slot of hop `h` and tile `t`. -/
abbrev slotM (b : Bool) (h : Fin 3) (t : Fin 2) : Memref sig .tc .vmem S1024x512 .f32 :=
  ((commM b).slice (slotR h t) (fun _ => rfl)).squeeze S1024x512 squeezes_S1x1x1024x512_S1024x512

theorem inb_xblk (j : Dev nD) (a) : (![1024 * j.val, 0] : Fin 2 → ℕ) a + S1024x1024.size a ≤ S4096x1024.size a := by
  revert j a; decide
abbrev xblkR (j : Dev nD) : Rect S4096x1024 := Rect.unit (s := S4096x1024) ![1024 * j.val, 0] S1024x1024.size (inb_xblk j)
/-- The block of rows `j` of the left operand. -/
abbrev xblkM (j : Dev nD) : Memref sig .tc .hbm S1024x1024 .f32 := (Memref.whole main_arg0).slice (xblkR j) (fun _ => rfl)

theorem inb_xslot (k : Fin 4) (a) : (![k.val, 0, 0] : Fin 3 → ℕ) a + S1x1024x1024.size a ≤ S4x1024x1024.size a := by
  revert k a; decide
abbrev xslotR (k : Fin 4) : Rect S4x1024x1024 := Rect.unit (s := S4x1024x1024) ![k.val, 0, 0] S1x1024x1024.size (inb_xslot k)
abbrev xslotM (k : Fin 4) : Memref sig .tc .vmem S1024x1024 .f32 :=
  ((Memref.whole cc0_scratch0).slice (xslotR k) (fun _ => rfl)).squeeze S1024x1024 squeezes_S1x1024x1024_S1024x1024

theorem inb_half (b : Bool) (a) : (![0, if b then 1024 else 0] : Fin 2 → ℕ) a + S1024x1024.size a ≤ S1024x2048.size a := by
  revert b a; decide
/-- The half of the columns ring `b` carries. -/
abbrev halfR (b : Bool) : Rect S1024x2048 := Rect.unit (s := S1024x2048) ![0, if b then 1024 else 0] S1024x1024.size (inb_half b)
abbrev wHbmM (b : Bool) : Memref sig .tc .hbm S1024x1024 .f32 := (Memref.whole main_arg1).slice (halfR b) (fun _ => rfl)
abbrev wVmemM (b : Bool) : Memref sig .tc .vmem S1024x1024 .f32 := (Memref.whole cc0_scratch1).slice (halfR b) (fun _ => rfl)

theorem inb_tile (b : Bool) (t : Fin 2) (a) : (![0, (if b then 1024 else 0) + 512 * t.val] : Fin 2 → ℕ) a + S1024x512.size a ≤ S1024x2048.size a := by
  revert b t a; decide
/-- The columns of tile `t` of ring `b`. -/
abbrev tileR (b : Bool) (t : Fin 2) : Rect S1024x2048 := Rect.unit (s := S1024x2048) ![0, (if b then 1024 else 0) + 512 * t.val] S1024x512.size (inb_tile b t)
abbrev outM (b : Bool) (t : Fin 2) : Memref sig .tc .hbm S1024x512 .f32 := (Memref.whole main_v1).slice (tileR b t) (fun _ => rfl)

/-- The credit of one ring transfer. -/
def Nc (b : Bool) : ℕ := (slotM b 0 0).view.dmaCredit
theorem Nc_pos (b : Bool) : 0 < Nc b := View.dmaCredit_pos _ (by decide)

/-! ## The contents -/

variable (m : (ℓ : Loc nD τ sig) → Buf (Elt F) ℓ)

/-- The product of a block of rows and a column tile. -/
def dotT (A : S1024x1024.Idx → Elt F .f32) (B : S1024x512.Idx → Elt F .f32) : S1024x512.Idx → Elt F .f32 :=
  matmul dot_S1024x1024_S1024x512_S1024x512_1_0_0_1_n_n none (A : FVec F S1024x1024 .f32) (B : FVec F S1024x512 .f32) (constant S1024x512 .f32 0x00000000#32)

/-- Block `j` of the rows of device `c`'s left operand. -/
def xb (c j : Dev nD) : S1024x1024.Idx → Elt F .f32 := (xblkM j).view.read (Elt F) (m ((c : Thread nD τ).loc main_arg0))
/-- Tile `t` of ring `b` of the columns of device `c`'s right operand. -/
def wt (c : Dev nD) (b : Bool) (t : Fin 2) : S1024x512.Idx → Elt F .f32 :=
  (Memref.whole main_arg1).view.readAt (Elt F) (tileR b t).toLoadRect (m ((c : Thread nD τ).loc main_arg1))
/-- Device `c`'s own contribution at hop `h`. -/
def term (b : Bool) (t : Fin 2) (h : Fin 4) (c : Dev nD) : S1024x512.Idx → Elt F .f32 := dotT (xb m c (blk b h c)) (wt m c b t)
/-- What device `c` holds for tile `t` of ring `b` once it has added its own contribution of hop `n`. -/
def part (b : Bool) (t : Fin 2) : ℕ → Dev nD → S1024x512.Idx → Elt F .f32
  | 0, c => term m b t 0 c
  | n + 1, c => addf (part b t n (fwd (!b) c) : FVec F S1024x512 .f32) (term m b t (Fin.ofNat 4 (n + 1)) c : FVec F S1024x512 .f32)

/-- A slot of a ring's buffer on device `c`, holding `X`. -/
def slot (b : Bool) (h : Fin 3) (t : Fin 2) (c : Dev nD) (X : S1024x512.Idx → Elt F .f32) : sProp 𝕄 :=
  owns (c : Thread nD τ) (slotM b h t) fullShare X
/-- The slot holding anything. -/
def slotAny (b : Bool) (h : Fin 3) (t : Fin 2) (c : Dev nD) : sProp 𝕄 := iprop(∃ X, slot b h t c X)

omit [FloatOps F] in
instance slot_storable (b h t c X) : BI.Storable (upEmb : UEmb _ 𝕄) (slot (F := F) b h t c X) := by unfold slot; infer_instance
omit [FloatOps F] in
instance slotAny_storable (b h t c) : BI.Storable (upEmb : UEmb _ 𝕄) (slotAny (F := F) b h t c) := by unfold slotAny; infer_instance

/-! ## The schedule -/

/-- The four slots of ring `b` that device `e` lets its sender write: hops one and two. -/
def lent (b : Bool) (e : Dev nD) : sProp 𝕄 :=
  iprop(slotAny b 1 0 e ∗ slotAny b 1 1 e ∗ slotAny b 2 0 e ∗ slotAny b 2 1 e)
/-- What a barrier signal hands over: the signalling device's slots of the ring it receives on. -/
def barPay (b : Bool) (c : Dev nD) : sProp 𝕄 := lent b (fwd b c)
/-- What a receive hands over: the slot with the sender's partial sum; at the middle hop also the sender's free slot
    of the other ring, which this device's last transfer writes. -/
def recvPay (b : Bool) (h : Fin 3) (t : Fin 2) (c : Dev nD) : sProp 𝕄 :=
  iprop(slot b (h + 1) t c (part m b t h.val (fwd (!b) c)) ∗ (if h = 1 then slotAny (!b) 0 t (fwd (!b) c) else emp))

def xferPay (x : Cx) (c : Dev nD) : sProp 𝕄 :=
  if x.1 then recvPay m x.2.1 x.2.2.1 x.2.2.2 c else slotAny x.2.1 x.2.2.1 x.2.2.2 c

def Rd : Rounds.Schedule (GSem nD τ sig) Bool 𝕄 where
  duties g r := if r = 0 ∧ g.1.2 = .tc then (match kx g.2 with | some none => Finset.univ | some (some _) => {false} | none => ∅) else ∅
  unitless _ := False
  amount g _ _ := match kx g.2 with | some (some x) => Nc x.2.1 | _ => 1
  payload g _ d := match kx g.2 with | some none => barPay d g.1.1 | some (some x) => xferPay m x g.1.1 | none => iprop(emp)
  amount_pos g _ _ _ := by
    split
    · exact Nc_pos _
    · exact Nat.one_pos

instance Rd_payload_storable (g : GSem nD τ sig) (r : ℕ) (d : Bool) : BI.Storable (upEmb : UEmb _ 𝕄) ((Rd (F := F) m).payload g r d) := by
  show BI.Storable upEmb (match kx g.2 with | some none => barPay d g.1.1 | some (some x) => xferPay m x g.1.1 | none => iprop(emp))
  unfold barPay xferPay lent recvPay
  (repeat' split) <;> infer_instance

section Sched
variable (c : Dev nD)

theorem duties_bar : (Rd (F := F) m).duties (barC c) 0 = Finset.univ := by
  dsimp only [Rd]; rw [if_pos ⟨rfl, rfl⟩, kx_csem]
theorem duties_x (x : Cx) : (Rd (F := F) m).duties (cell c (some x)) 0 = {false} := by
  dsimp only [Rd]; rw [if_pos ⟨rfl, rfl⟩, kx_csem]
theorem duties_later (g : GSem nD τ sig) : ∀ r, 1 ≤ r → (Rd (F := F) m).duties g r = ∅ :=
  fun r hr => by dsimp only [Rd]; rw [if_neg fun h => by omega]
theorem amount_bar (d : Bool) : (Rd (F := F) m).amount (barC c) 0 d = 1 := by dsimp only [Rd]; rw [kx_csem]
theorem amount_x (x : Cx) (d : Bool) : (Rd (F := F) m).amount (cell c (some x)) 0 d = Nc x.2.1 := by dsimp only [Rd]; rw [kx_csem]
theorem expect_bar : (Rd (F := F) m).expect (barC c) 0 = 2 := by
  unfold Schedule.expect Schedule.amountOf
  rw [duties_bar, Finset.sum_congr rfl fun d _ => amount_bar m c d, Finset.sum_const, Finset.card_univ, Fintype.card_bool, smul_eq_mul]
theorem expect_x (x : Cx) : (Rd (F := F) m).expect (cell c (some x)) 0 = Nc x.2.1 := by
  unfold Schedule.expect Schedule.amountOf; rw [duties_x, Finset.sum_singleton, amount_x]
theorem payload_bar (d : Bool) : (Rd (F := F) m).payload (barC c) 0 d = barPay d c := by dsimp only [Rd]; rw [kx_csem]
theorem payload_s (b h t) (d : Bool) : (Rd (F := F) m).payload (sC b h t c) 0 d = slotAny b h t c := by
  dsimp only [Rd]; rw [kx_csem]; rfl
theorem payload_r (b h t) (d : Bool) : (Rd (F := F) m).payload (rC b h t c) 0 d = recvPay m b h t c := by
  dsimp only [Rd]; rw [kx_csem]; rfl
theorem rest_bar : bigSep ((Rd (F := F) m).duties (barC c) 0 \ ∅) (fun d => (Rd (F := F) m).payload (barC c) 0 d) = iprop(barPay false c ∗ barPay true c) := by
  rw [Finset.sdiff_empty, duties_bar, bigSep_univ_eq_bigSepL [false, true] (by decide) (by decide), bigSepL_cons_cons, bigSepL_singleton,
    payload_bar, payload_bar]
  rfl
theorem rest_s (b h t) : bigSep ((Rd (F := F) m).duties (sC b h t c) 0 \ ∅) (fun d => (Rd (F := F) m).payload (sC b h t c) 0 d) = slotAny b h t c := by
  rw [Finset.sdiff_empty, duties_x, bigSep_singleton, payload_s]
theorem rest_r (b h t) : bigSep ((Rd (F := F) m).duties (rC b h t c) 0 \ ∅) (fun d => (Rd (F := F) m).payload (rC b h t c) 0 d) = recvPay m b h t c := by
  rw [Finset.sdiff_empty, duties_x, bigSep_singleton, payload_r]

end Sched

/-! ## What a device owes, and the levels -/

/-- A transfer: its ring, its hop, its tile. -/
abbrev Tx : Type := Bool × Fin 3 × Fin 2

/-- The credit device `c`'s transfer `x` pays at its receiver. -/
def due (c : Dev nD) (x : Tx) : CellTallies nD τ sig Unit := tallyAt (rC x.1 x.2.1 x.2.2 (fwd x.1 c)) () (Nc x.1)
/-- The transfers still to be sent, in program order: what they owe. -/
def dues (c : Dev nD) : List Tx → CellTallies nD τ sig Unit
  | [] => 0
  | x :: l => dues c l + due c x

/-- The transfers in program order. -/
def sends : List Tx :=
  [(false, 0, 0), (false, 0, 1), (true, 0, 0), (true, 0, 1), (false, 1, 0), (true, 1, 0), (false, 1, 1), (true, 1, 1),
    (false, 2, 0), (true, 2, 0), (false, 2, 1), (true, 2, 1)]

/-- After the first signal, which goes against ring `false`. -/
def O₁ (c : Dev nD) : CellTallies nD τ sig Unit := dues c sends + tallyAt (barC (fwd false c)) () 1
def O₀ (c : Dev nD) : CellTallies nD τ sig Unit := O₁ c + tallyAt (barC (fwd true c)) () 1

def L (g : GSem nD τ sig) : Finset Unit := if g.1.2 = .tc then {()} else ∅
/-- The barrier at one, the receive cells of hop `h` at `h + 2`, everything else at zero. -/
def lv (g : GSem nD τ sig) (_ : Unit) : ℕ :=
  match kx g.2 with | some none => 1 | some (some x) => (if x.1 then x.2.2.1.val + 2 else 0) | none => 0

theorem L_of_ne (g : GSem nD τ sig) (h : g.1.2 ≠ .tc) : L g = ∅ := if_neg h
theorem L_tc (c : Dev nD) (sm : SemLoc sig) : L ((c : Thread nD τ), sm) = {()} := if_pos rfl
theorem lv_r (b h t) (c : Dev nD) (u : Unit) : lv (rC b h t c) u = h.val + 2 := by unfold lv; rw [kx_csem]; rfl
theorem lv_bar (c : Dev nD) (u : Unit) : lv (barC c) u = 1 := by unfold lv; rw [kx_csem]

/-- A cell that is owed something by the transfers `l` is one of their receive cells. -/
theorem dues_pos {c : Dev nD} {g : GSem nD τ sig} {u : Unit} : ∀ {l : List Tx}, 0 < dues c l g u → ∃ x ∈ l, g = rC x.1 x.2.1 x.2.2 (fwd x.1 c)
  | [], h => absurd h (Nat.lt_irrefl 0)
  | x :: l, h => by
    unfold dues due at h
    rw [Pi.add_apply, Finsupp.add_apply, tallyAt_apply] at h
    by_cases hx : g = rC x.1 x.2.1 x.2.2 (fwd x.1 c) ∧ u = ()
    · exact ⟨x, List.mem_cons_self, hx.1⟩
    · rw [if_neg hx, Nat.add_zero] at h
      obtain ⟨y, hy, hg⟩ := dues_pos h
      exact ⟨y, List.mem_cons_of_mem _ hy, hg⟩

/-- A wait below the level of every transfer still owed is allowed. -/
theorem mayWait_dues (c : Dev nD) (sm : SemLoc sig) (l : List Tx) (n : ℕ) (hn : lv ((c : Thread nD τ), sm) () ≤ n)
    (hl : ∀ x ∈ l, n < x.2.1.val + 2) :
    (levAts L lv : sProp 𝕄) ⊢ MayWait (c : Thread nD τ) sm () (dues c l) :=
  MayOwe.of_cut (L := L) (lev := lv) n
    (fun p hp => by rw [Finset.mem_singleton.mp hp, L_tc]; exact Finset.mem_singleton_self _)
    (fun g u hg => by obtain ⟨x, _, rfl⟩ := dues_pos hg; exact Finset.mem_singleton_self _)
    (fun p hp => by rw [Finset.mem_singleton.mp hp]; exact hn)
    (fun g u hg => by obtain ⟨x, hx, rfl⟩ := dues_pos hg; rw [lv_r]; exact hl x hx)

end Cert.RingProof
end
end
-- ==== Proof.Steps.lean ====
/-
# One operation of the ring kernel at a time

Each lemma runs one operation of the kernel at the head of a program, on the resources it needs: a copy within the
device, a load or a store of a slot, a transfer to the peer, and the waits.
-/
module

public import proofs.«01_k».proof.Proof.Proto

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of the kernel on device `c`. -/
abbrev wpK (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Kx → ℕ)

/-! ## What every device knows -/

/-- Every cell's invariant, and that every cell has reached round zero. -/
def records : sProp 𝕄 :=
  iprop((bigSep Finset.univ fun ck : Dev nD × Kx => cellInv ER (Rd (F := F) m) (K ck) (cell ck.1 ck.2))
    ∗ (bigSep Finset.univ fun ck : Dev nD × Kx => reached ER (cell ck.1 ck.2) 0))
instance records_persistent : BI.Persistent (records (F := F) m K) := by unfold records; infer_instance

def ctx : sProp 𝕄 := iprop(records m K ∗ levAts L lv)
instance ctx_persistent : BI.Persistent (ctx (F := F) m K) := by unfold ctx; infer_instance

theorem ctx_inv (c : Dev nD) (k : Kx) : ctx (F := F) m K ⊢ cellInv ER (Rd (F := F) m) (K (c, k)) (cell c k) := by
  unfold ctx records
  iintro ⟨⟨H, -⟩, -⟩
  have h : (bigSep Finset.univ fun ck : Dev nD × Kx => cellInv ER (Rd (F := F) m) (K ck) (cell ck.1 ck.2))
      ⊢ cellInv ER (Rd (F := F) m) (K (c, k)) (cell c k) := bigSep_elim (Finset.mem_univ (c, k))
  iapply h; iexact H
theorem ctx_reached (c : Dev nD) (k : Kx) : ctx (F := F) m K ⊢ reached ER (cell c k) 0 := by
  unfold ctx records
  iintro ⟨⟨-, H⟩, -⟩
  have h : (bigSep Finset.univ fun ck : Dev nD × Kx => (reached ER (cell ck.1 ck.2) 0 : sProp 𝕄)) ⊢ reached ER (cell c k) 0 :=
    bigSep_elim (Finset.mem_univ (c, k))
  iapply h; iexact H
theorem ctx_lev : ctx (F := F) m K ⊢ (levAts L lv : sProp 𝕄) := by
  unfold ctx; iintro ⟨-, H⟩; iexact H

/-- The device owes the transfers from number `n` on. -/
def owesN (c : Dev nD) (n : ℕ) : sProp 𝕄 := iprop(∃ W, owes (c : Thread nD τ) (dues c (sends.drop n)) W)

/-! ## Copies within the device -/

section Local
variable {α : Type} {Q : α → sProp (MT nD τ sig Unit (Elt F) ℕ UU ℕ)} {k : PUnit → Prog (TpuEff nD τ sig (Elt F) Λ₀ .tc) α}

/-- A copy in flight from `src`, which holds `X`, to `dst`. -/
def flying (c : Dev nD) {sp sp' : Space} {s : Shape} {e : EltTy} (src : Memref sig .tc sp s e) (dst : Memref sig .tc sp' s e) (sm : DmaSem sig)
    (X : s.Idx → Elt F e) : sProp 𝕄 :=
  iprop(∃ fs fd, ⌜src.view.read (Elt F) fs = X⌝ ∗ Transfers.Flight EC (c : Thread nD τ) (.dma sm) () dst.view.dmaCredit
    iprop((dst.view.loc (c : Thread nD τ) ↦[dst.view.set]{fullShare} (dst.view.write (Elt F) fd (src.view.read (Elt F) fs) Finset.univ))
      ∗ (src.view.loc (c : Thread nD τ) ↦[src.view.set]{fullShare} fs)))

theorem copy_start (c : Dev nD) {sp sp' : Space} {s : Shape} {e : EltTy} (src : Memref sig .tc sp s e) (dst : Memref sig .tc sp' s e) (sm : DmaSem sig)
    (X : s.Idx → Elt F e) (hpos : 0 < dst.view.dmaCredit) {hsrc : src.view.WordExact} {hdst : dst.view.WordExact} {hsem : DmaTarget.Typed (nD := nD) (τ := τ) (p := .tc) sp (.dma sm) (.here dst)} :
    owns (c : Thread nD τ) src fullShare X
      ⊢ iprop((∃ Y, owns (c : Thread nD τ) dst fullShare Y) -∗ semVal ((c : Thread nD τ), .dma sm) 0
        -∗ (flying c src dst sm X -∗ wpK c (k ⟨⟩) Q) -∗ wpK c (.op (.enqueueDma src (.here dst) (.dma sm) hsrc hdst hsem) k) Q) := by
  unfold owns
  iintro ⟨%fs, %hX, Hs⟩ ⟨%Y, %fd, -, Hd⟩ Hv Hk
  iapply (Transfers.wp_dmaLocal EC 𝒱₀ (c : Thread nD τ) none () dst.view.dmaCredit rfl hpos (Finset.Subset.refl _)) $$ [Hs Hd Hv]
  · isplitl [Hs]; · iexact Hs
    isplitl [Hd]; · iexact Hd
    iexact Hv
  iintro Hf
  iapply Hk
  unfold flying
  iexists fs, fd
  isplitr; · ipureintro; exact hX
  iexact Hf

theorem copy_wait (c : Dev nD) (n : ℕ) {sp sp' : Space} {s : Shape} {e : EltTy} (src : Memref sig .tc sp s e) (dst : Memref sig .tc sp' s e) (sm : DmaSem sig)
    (X : s.Idx → Elt F e) (hsm : kx (.dma sm) = none)
    {hsrc : src.view.WordExact} {hdst : dst.view.WordExact} :
    ctx m K ⊢ iprop(flying c src dst sm X -∗ owesN c n
        -∗ (owns (c : Thread nD τ) dst fullShare X -∗ owns (c : Thread nD τ) src fullShare X -∗ semVal ((c : Thread nD τ), .dma sm) 0 -∗ owesN c n -∗ wpK c (k ⟨⟩) Q)
        -∗ wpK c (.op (.waitDma2 sm src dst hsrc hdst) k) Q) := by
  iintro #Hc Hf HO Hk
  unfold flying owesN
  icases HO with ⟨%W, HO⟩
  icases Hf with ⟨%fs, %fd, %hX, Hf⟩
  iapply (Transfers.wp_waitLocalO EC 𝒱₀ (c : Thread nD τ) none () rfl) $$ [Hf HO]
  · isplitl [Hf]; · iexact Hf
    isplitl [HO]; · iexact HO
    iapply (mayWait_dues c (.dma sm) _ 0 (by unfold lv; rw [hsm]) (fun x _ => by omega))
    iapply (ctx_lev m K); iexact Hc
  iintro ⟨⟨Hd, Hs⟩, Hv, HO⟩
  iapply Hk $$ [Hd] [Hs] Hv [HO]
  · unfold owns; iexists (dst.view.write (Elt F) fd (src.view.read (Elt F) fs) Finset.univ); isplitr
    · ipureintro; exact (View.read_write_univ _ _).trans hX
    · iexact Hd
  · unfold owns; iexists fs; isplitr
    · ipureintro; exact hX
    · iexact Hs
  · iexists _; iexact HO

end Local

/-! ## Loads and stores -/

section Mem
variable {α : Type} {Q : α → sProp (MT nD τ sig Unit (Elt F) ℕ UU ℕ)}

omit [FloatOps F] in
theorem owns_of_squeeze (c : Dev nD) {sp : Space} {s s' : Shape} {e : EltTy} (M : Memref sig .tc sp s e) (h : s.Squeezes s') (X : s'.Idx → Elt F e) :
    (owns (c : Thread nD τ) (M.squeeze s' h) fullShare X : sProp 𝕄)
      ⊢ owns (c : Thread nD τ) M fullShare (shapeCast s X h.numel_eq.symm) := by
  unfold owns
  iintro ⟨%f, %hf, H⟩
  iexists f
  isplitr
  · ipureintro
    subst hf
    funext i
    show M.view.read (Elt F) f i = M.view.read (Elt F) f (Shape.reshapeEquiv h.numel_eq (Shape.reshapeEquiv h.numel_eq.symm i))
    rw [Shape.reshapeEquiv_reshapeEquiv, Shape.reshapeEquiv_self]
  · have hs : (M.squeeze s' h).view.set = M.view.set := View.set_reshape _ _
    rw [hs]; iexact H

omit [FloatOps F] in
theorem owns_squeeze (c : Dev nD) {sp : Space} {s s' : Shape} {e : EltTy} (M : Memref sig .tc sp s e) (h : s.Squeezes s') (X : s.Idx → Elt F e) :
    (owns (c : Thread nD τ) M fullShare X : sProp 𝕄)
      ⊢ owns (c : Thread nD τ) (M.squeeze s' h) fullShare (shapeCast s' X h.numel_eq) := by
  unfold owns
  iintro ⟨%f, %hf, H⟩
  iexists f
  isplitr
  · ipureintro; subst hf; rfl
  · have hs : (M.squeeze s' h).view.set = M.view.set := View.set_reshape _ _
    rw [hs]; iexact H

theorem load_owns (c : Dev nD) {s : Shape} {e : EltTy} (M : Memref sig .tc .vmem s e) (r : Rect s) (hr : ∀ a, r.stride a = 1) (X : r.shape.Idx → Elt F e)
    {hl : M.view.LoadsAt r.toLoadRect} {k : (r.shape.Idx → Elt F e) → Prog (TpuEff nD τ sig (Elt F) Λ₀ .tc) α} :
    owns (c : Thread nD τ) (M.slice r hr) fullShare X
      ⊢ iprop((owns (c : Thread nD τ) (M.slice r hr) fullShare X -∗ wpK c (k X) Q) -∗ wpK c (.op (.load M r.toLoadRect hl) k) Q) := by
  unfold owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f
  isplitr
  · ipureintro; exact hf
  · iexact H

theorem store_owns (c : Dev nD) {s : Shape} {e : EltTy} (M : Memref sig .tc .vmem s e) (r : Rect s) (hr : ∀ a, r.stride a = 1) (X w : r.shape.Idx → Elt F e)
    {hx : (M.access r).Stores Finset.univ} {hm : Finset.univ = Finset.univ ∨ ∀ a, r.stride a = 1} {k : PUnit → Prog (TpuEff nD τ sig (Elt F) Λ₀ .tc) α} :
    owns (c : Thread nD τ) (M.slice r hr) fullShare X
      ⊢ iprop((owns (c : Thread nD τ) (M.slice r hr) fullShare w -∗ wpK c (k ⟨⟩) Q) -∗ wpK c (.op (.store M r w Finset.univ hx hm) k) Q) := by
  unfold owns
  iintro ⟨%f, -, H⟩ Hk
  iapply (wp_store 𝒱₀ (c : Thread nD τ) none Set.univ (m := M) (r := r) (Mk := Finset.univ) (S := (M.slice r hr).view.set) (f := f) (Finset.Subset.refl _)) $$ H
  iintro H
  iapply Hk
  iexists ((M.access r).write (Elt F) f w Finset.univ)
  isplitr
  · ipureintro; exact View.read_write_univ _ _
  · iexact H

theorem shapeCast_back {s s' : Shape} {e : EltTy} (h : s'.numel = s.numel) (X : s.Idx → Elt F e) : shapeCast s (shapeCast s' X h) h.symm = X := by
  funext i
  show X (Shape.reshapeEquiv h (Shape.reshapeEquiv h.symm i)) = X i
  rw [Shape.reshapeEquiv_reshapeEquiv, Shape.reshapeEquiv_self]

abbrev h512 : S1x1x1024x512.numel = S1024x512.numel := (squeezes_S1x1x1024x512_S1024x512).numel_eq.symm
abbrev h1024 : S1x1024x1024.numel = S1024x1024.numel := (squeezes_S1x1024x1024_S1024x1024).numel_eq.symm

theorem load_slot (b : Bool) (h : Fin 3) (t : Fin 2) (c : Dev nD) (X : S1024x512.Idx → Elt F .f32)
    {hl : (commM b).view.LoadsAt (slotR h t).toLoadRect} {k : (S1x1x1024x512.Idx → Elt F .f32) → Prog (TpuEff nD τ sig (Elt F) Λ₀ .tc) α} :
    slot b h t c X ⊢ iprop((slot b h t c X -∗ wpK c (k (shapeCast S1x1x1024x512 X h512)) Q)
      -∗ wpK c (.op (.load (commM b) (slotR h t).toLoadRect hl) k) Q) := by
  unfold slot
  iintro H Hk
  ihave H := (owns_of_squeeze c _ squeezes_S1x1x1024x512_S1024x512 X) $$ H
  iapply (load_owns c (commM b) (slotR h t) (fun _ => rfl) (shapeCast S1x1x1024x512 X h512)) $$ H
  iintro H
  iapply Hk
  ihave H := (owns_squeeze c _ squeezes_S1x1x1024x512_S1024x512 _) $$ H
  rw [shapeCast_back]
  iexact H

/-- A load of a slot whose contents do not matter. -/
theorem load_slotAny (b : Bool) (h : Fin 3) (t : Fin 2) (c : Dev nD)
    {hl : (commM b).view.LoadsAt (slotR h t).toLoadRect} {k : (S1x1x1024x512.Idx → Elt F .f32) → Prog (TpuEff nD τ sig (Elt F) Λ₀ .tc) α} :
    slotAny b h t c ⊢ iprop((∀ v, slotAny b h t c -∗ wpK c (k v) Q)
      -∗ wpK c (.op (.load (commM b) (slotR h t).toLoadRect hl) k) Q) := by
  unfold slotAny
  iintro ⟨%X, H⟩ Hk
  iapply (load_slot b h t c X) $$ H
  iintro H
  iapply Hk
  iexists X; iexact H

/-- A store into a slot of what casts back to `Y`. -/
theorem store_slot (b : Bool) (h : Fin 3) (t : Fin 2) (c : Dev nD) (Y : S1024x512.Idx → Elt F .f32)
    {hx : ((commM b).access (slotR h t)).Stores Finset.univ} {hm : Finset.univ = Finset.univ ∨ ∀ a, (slotR h t).stride a = 1} {k : PUnit → Prog (TpuEff nD τ sig (Elt F) Λ₀ .tc) α} :
    slotAny b h t c ⊢ iprop((slot b h t c Y -∗ wpK c (k ⟨⟩) Q)
      -∗ wpK c (.op (.store (commM b) (slotR h t) (shapeCast S1x1x1024x512 Y h512) Finset.univ hx hm) k) Q) := by
  unfold slotAny slot
  iintro ⟨%X, H⟩ Hk
  ihave H := (owns_of_squeeze c _ squeezes_S1x1x1024x512_S1024x512 X) $$ H
  iapply (store_owns c (commM b) (slotR h t) (fun _ => rfl) _ (shapeCast S1x1x1024x512 Y h512)) $$ H
  iintro H
  iapply Hk
  ihave H := (owns_squeeze c _ squeezes_S1x1x1024x512_S1024x512 _) $$ H
  rw [shapeCast_back]
  iexact H

theorem slotAny_intro (b : Bool) (h : Fin 3) (t : Fin 2) (c : Dev nD) (X : S1024x512.Idx → Elt F .f32) : slot b h t c X ⊢ (slotAny b h t c : sProp 𝕄) := by
  unfold slotAny; iintro H; iexists X; iexact H

/-- A block of rows held in a slot of the left operand's buffer. -/
def xslot (i : Fin 4) (c : Dev nD) (X : S1024x1024.Idx → Elt F .f32) : sProp 𝕄 := owns (c : Thread nD τ) (xslotM i) fullShare X

theorem load_x (i : Fin 4) (c : Dev nD) (X : S1024x1024.Idx → Elt F .f32)
    {hl : (Memref.whole cc0_scratch0).view.LoadsAt (xslotR i).toLoadRect} {k : (S1x1024x1024.Idx → Elt F .f32) → Prog (TpuEff nD τ sig (Elt F) Λ₀ .tc) α} :
    xslot i c X ⊢ iprop((xslot i c X -∗ wpK c (k (shapeCast S1x1024x1024 X h1024)) Q)
      -∗ wpK c (.op (.load (Memref.whole cc0_scratch0) (xslotR i).toLoadRect hl) k) Q) := by
  unfold xslot
  iintro H Hk
  ihave H := (owns_of_squeeze c _ squeezes_S1x1024x1024_S1024x1024 X) $$ H
  iapply (load_owns c (Memref.whole cc0_scratch0) (xslotR i) (fun _ => rfl) (shapeCast S1x1024x1024 X h1024)) $$ H
  iintro H
  iapply Hk
  ihave H := (owns_squeeze c _ squeezes_S1x1024x1024_S1024x1024 _) $$ H
  rw [shapeCast_back]
  iexact H

/-- The half of device `c`'s right operand that ring `b` works on. -/
def wh (c : Dev nD) (b : Bool) : S1024x1024.Idx → Elt F .f32 := (wHbmM b).view.read (Elt F) (m ((c : Thread nD τ).loc main_arg1))
/-- That half held in the right operand's buffer. -/
def whalf (b : Bool) (c : Dev nD) : sProp 𝕄 := owns (c : Thread nD τ) (wVmemM b) fullShare (wh m c b)

/-- A tile of a half: which column of the half each of its columns is. -/
def inHalf (t : Fin 2) (j : S1024x512.Idx) : S1024x1024.Idx :=
  fun | ⟨0, h⟩ => j ⟨0, h⟩ | ⟨1, h⟩ => ⟨512 * t.val + (j ⟨1, h⟩).val, by
    have h1 : (j ⟨1, h⟩).val < 512 := (j ⟨1, h⟩).isLt
    have h2 := t.isLt
    show _ < 1024
    omega⟩

theorem tile_emb (b : Bool) (t : Fin 2) (j : S1024x512.Idx) : (tileR b t).emb j = (halfR b).emb (inHalf t j) := by
  funext a
  apply Fin.ext
  match a with
  | ⟨0, _⟩ => rfl
  | ⟨1, _⟩ =>
    show (if b then 1024 else 0) + 512 * t.val + 1 * (j ⟨1, _⟩).val = (if b then 1024 else 0) + 1 * (512 * t.val + (j ⟨1, _⟩).val)
    omega

theorem load_w (b : Bool) (t : Fin 2) (c : Dev nD)
    {hl : (Memref.whole cc0_scratch1).view.LoadsAt (tileR b t).toLoadRect} {k : (S1024x512.Idx → Elt F .f32) → Prog (TpuEff nD τ sig (Elt F) Λ₀ .tc) α} :
    whalf m b c ⊢ iprop((whalf m b c -∗ wpK c (k (wt m c b t)) Q)
      -∗ wpK c (.op (.load (Memref.whole cc0_scratch1) (tileR b t).toLoadRect hl) k) Q) := by
  unfold whalf owns
  iintro ⟨%f, %hf, H⟩ Hk
  iapply (wp_load_rect 𝒱₀ (c : Thread nD τ) none Set.univ (m := Memref.whole cc0_scratch1) (r := tileR b t) (S := (wVmemM b).view.set) (by
    intro i hi
    obtain ⟨j, -, rfl⟩ := Finset.mem_map.mp hi
    exact Finset.mem_map.mpr ⟨inHalf t j, Finset.mem_univ _, (tile_emb b t j).symm⟩)) $$ H
  iintro H
  have hv : ((Memref.whole cc0_scratch1).access (tileR b t)).read (Elt F) f = wt m c b t := by
    funext j
    have h := congrFun hf (inHalf t j)
    show f ((tileR b t).emb j) = m ((c : Thread nD τ).loc main_arg1) ((tileR b t).emb j)
    rw [tile_emb]
    exact h
  rw [hv]
  iapply Hk
  iexists f
  isplitr
  · ipureintro; exact hf
  · iexact H

end Mem

/-! ## The rings' transfers -/

section Ring
variable {α : Type} {Q : α → sProp (MT nD τ sig Unit (Elt F) ℕ UU ℕ)} {k : PUnit → Prog (TpuEff nD τ sig (Elt F) Λ₀ .tc) α}

/-- What device `c` needs of the protocol to send transfer `(b, h, t)`. -/
def sendTok (b : Bool) (h : Fin 3) (t : Fin 2) (c : Dev nD) : sProp 𝕄 :=
  iprop(dutyTok ER (sC b h t c) 0 false ∗ dutyTok ER (rC b h t (fwd b c)) 0 false ∗ atPos ER (sC b h t c) 0 ∅ 0)
/-- A transfer sent and not yet waited for. -/
def sent (b : Bool) (h : Fin 3) (t : Fin 2) (c : Dev nD) : sProp 𝕄 :=
  iprop(cred (tallyAt (sC b h t c) () (Nc b)) ∗ atPos ER (sC b h t c) 0 ∅ 0)
/-- What device `c` needs of the protocol to receive transfer `(b, h, t)`. -/
def recvTok (b : Bool) (h : Fin 3) (t : Fin 2) (c : Dev nD) : sProp 𝕄 :=
  iprop(cred (tallyAt (rC b h t c) () (Nc b)) ∗ atPos ER (rC b h t c) 0 ∅ 0)
/-- The counter of a transfer cell, home at zero. -/
def zero (x : Cx) (c : Dev nD) : sProp 𝕄 := semVal ((c : Thread nD τ), .dma (dsem x)) 0

theorem slot_credit (b : Bool) (h : Fin 3) (t : Fin 2) : (slotM b h t).view.dmaCredit = Nc b := by cases b <;> rfl

theorem mem_x (c : Dev nD) (x : Cx) : false ∈ (Rd (F := F) m).duties (cell c (some x)) 0 := by
  rw [duties_x]; exact Finset.mem_singleton_self _

theorem send_any (b : Bool) (h h' : Fin 3) (t : Fin 2) (c n : Dev nD) (i : ℕ) (hn : n = fwd b c) (hh : h' = h + 1)
    (hi : sends.drop i = (b, h, t) :: sends.drop (i + 1)) (sS sR : DmaSem sig) (hsS : sS = dsem (false, b, h, t)) (hsR : sR = dsem (true, b, h, t))
    {hsc : (slotM b h' t : Memref sig (Dev.tc n : Thread nD τ).2.kind .vmem S1024x512 .f32).view.ref.isScScratch = false}
    {hsrc : (slotM b h t).view.WordExact} {hdst : (slotM b h' t).view.WordExact}
    {hsem : DmaTarget.Typed .vmem (.dma sR) (.remote (Dev.tc n : Thread nD τ) (slotM b h' t : Memref sig (Dev.tc n : Thread nD τ).2.kind .vmem S1024x512 .f32) (.dma sS) hsc)} :
    ctx m K ⊢ iprop(sendTok b h t c -∗ slot b h t c (part m b t h.val c) -∗ slotAny b h' t (fwd b c) -∗ (if h = 1 then slotAny (!b) 0 t c else emp) -∗ owesN c i
        -∗ (sent b h t c -∗ owesN c (i + 1) -∗ wpK c (k ⟨⟩) Q)
        -∗ wpK c (.op (.enqueueDma (slotM b h t) (.remote (Dev.tc n : Thread nD τ) (slotM b h' t : Memref sig (Dev.tc n : Thread nD τ).2.kind .vmem S1024x512 .f32) (.dma sS) hsc) (.dma sR) hsrc hdst hsem) k) Q) := by
  subst hn hsS hsR
  unfold sendTok slot slotAny owesN
  iintro #Hc ⟨Ht1, Ht2, Hat⟩ Hs ⟨%Y, Hd⟩ He ⟨%W, HO⟩ Hk
  unfold slot owns
  icases Hs with ⟨%fs, %hX, Hs⟩
  icases Hd with ⟨%fd, -, Hd⟩
  iapply (Rounds.wp_send_pointsTo_with 𝒱₀ ER (Rd m) (c : Thread nD τ) none (κ₁ := K (c, some (false, b, h, t))) (κ₂ := K (fwd b c, some (true, b, h, t)))
    (r₁ := 0) (r₂ := 0) (d₁ := false) (d₂ := false) (fs := fs) (fd := fd) (F := iprop(if h = 1 then slotAny (!b) 0 t c else emp))
    (mem_x m c (false, b, h, t)) (mem_x m (fwd b c) (true, b, h, t))
    () () (Nc b) (slot_credit b h' t) (amount_x m c (false, b, h, t) false) (amount_x m (fwd b c) (true, b, h, t) false) (O₀ := dues c (sends.drop i)) (dues c (sends.drop (i + 1))) (by rw [hi]; rfl) (W := W)
    (by
      refine BIBase.Entails.trans ?_ (Entails.of_eq (payload_s m c b h t false).symm)
      unfold slotAny slot
      iintro H; iexists (part m b t h.val c); unfold owns; iexists fs
      isplitr
      · ipureintro; exact hX
      · iexact H)
    (by
      refine BIBase.Entails.trans ?_ (Entails.of_eq (payload_r m (fwd b c) b h t false).symm)
      unfold recvPay
      rw [fwd_not_fwd, ← hh]
      iintro ⟨H, HF⟩
      isplitl [H]
      · unfold slot owns; iexists ((slotM b h' t).view.write (Elt F) fd ((slotM b h t).view.read (Elt F) fs) Finset.univ)
        isplitr
        · ipureintro; exact (View.read_write_univ _ _).trans hX
        · iexact H
      · iexact HF)) $$ [Hs Hd He HO Ht1 Ht2]
  · isplitr; · iapply (ctx_inv m K c (some (false, b, h, t))); iexact Hc
    isplitr; · iapply (ctx_inv m K (fwd b c) (some (true, b, h, t))); iexact Hc
    isplitl [Hs]; · iexact Hs
    isplitl [Hd He]
    · isplitl [Hd]; · iexact Hd
      iexact He
    isplitl [HO]; · iexact HO
    isplitl [Ht1]; · iexact Ht1
    isplitr; · iapply (ctx_reached m K c (some (false, b, h, t))); iexact Hc
    isplitl [Ht2]; · iexact Ht2
    iapply (ctx_reached m K (fwd b c) (some (true, b, h, t))); iexact Hc
  iintro ⟨Hcr, HO⟩
  iapply Hk $$ [Hcr Hat] [HO]
  · unfold sent; isplitl [Hcr]; · iexact Hcr
    iexact Hat
  · iexists W; iexact HO

/-- A wait on a cell of one device that takes everything its round holds and closes it. -/
theorem wait_cell (b : Bool) (x : Cx) (hb : x.2.1 = b) (c : Dev nD) (i : ℕ) (P : sProp 𝕄)
    (hP : bigSep ((Rd (F := F) m).duties (cell c (some x)) 0 \ ∅) (fun d => (Rd (F := F) m).payload (cell c (some x)) 0 d) = P)
    (hl : ∀ y ∈ sends.drop i, (if x.1 then x.2.2.1.val + 2 else 0) < y.2.1.val + 2)
    (sm : DmaSem sig) (hsm : sm = dsem x) {sp sp' : Space} {s s' : Shape} {e e' : EltTy} (src : Memref sig .tc sp s e) (dst : Memref sig .tc sp' s' e') (hd : dst.view.dmaCredit = Nc b)
    {hsrc : src.view.WordExact} {hdst : dst.view.WordExact} :
    ctx m K ⊢ iprop(cred (tallyAt (cell c (some x)) () (Nc b)) -∗ atPos ER (cell c (some x)) 0 ∅ 0 -∗ owesN c i
        -∗ (P -∗ zero x c -∗ owesN c i -∗ wpK c (k ⟨⟩) Q)
        -∗ wpK c (.op (.waitDma2 sm src dst hsrc hdst) k) Q) := by
  subst hsm hb
  unfold owesN
  iintro #Hc Hcr Hat ⟨%W, HO⟩ Hk
  iapply (Rounds.wp_wait_rest_token 𝒱₀ ER (Rd m) (c : Thread nD τ) none (κ := K (c, some x))
      (wpE_waitDma2_eq 𝒱₀ (c : Thread nD τ) none Set.univ) (Set.mem_univ _) () (O := dues c (sends.drop i)) (W := W) (R := 0) (m := 0) (T := ∅)
      (by rw [show ((c : Thread nD τ), SemLoc.dma (dsem x)) = cell c (some x) from rfl, expect_x, Nat.zero_add]; exact hd)) $$ [Hcr HO Hat]
  · isplitr; · iapply (ctx_inv m K c (some x)); iexact Hc
    isplitl [Hcr]; · rw [hd]; iexact Hcr
    isplitl [HO]; · iexact HO
    isplitr
    · iapply (mayWait_dues c (.dma (dsem x)) _ (if x.1 then x.2.2.1.val + 2 else 0) (by
        unfold lv; rw [show ((c : Thread nD τ), SemLoc.dma (dsem x)).2 = csem (some x) from rfl, kx_csem]) hl)
      iapply (ctx_lev m K); iexact Hc
    · iexact Hat
  iintro ⟨HO, Hat, -, Hpay⟩
  imod (Rounds.cell_close ER (Rd m) (Set.mem_univ (K (c, some x))) (fun h => h) (R := 0 + 1) (duties_later m (cell c (some x)))) $$ [Hat] with Hz
  · isplitr; · iapply (ctx_inv m K c (some x)); iexact Hc
    iexact Hat
  have hP' : bigSep ((Rd (F := F) m).duties ((c : Thread nD τ), .dma (dsem x)) 0 \ ∅) (fun d => (Rd (F := F) m).payload ((c : Thread nD τ), .dma (dsem x)) 0 d) = P := hP
  ihave Hp := (Entails.of_eq hP') $$ Hpay
  iapply Hk $$ Hp [Hz] [HO]
  · unfold zero; iexact Hz
  · iexists _; iexact HO

theorem send_wait (b : Bool) (h : Fin 3) (t : Fin 2) (c : Dev nD) (i : ℕ) (hl : ∀ y ∈ sends.drop i, 0 < y.2.1.val + 2)
    (sm : DmaSem sig) (hsm : sm = dsem (false, b, h, t)) {sp sp' : Space} {s s' : Shape} {e e' : EltTy} (src : Memref sig .tc sp s e) (dst : Memref sig .tc sp' s' e') (hd : dst.view.dmaCredit = Nc b)
    {hsrc : src.view.WordExact} {hdst : dst.view.WordExact} :
    ctx m K ⊢ iprop(sent b h t c -∗ owesN c i
        -∗ (slotAny b h t c -∗ zero (false, b, h, t) c -∗ owesN c i -∗ wpK c (k ⟨⟩) Q)
        -∗ wpK c (.op (.waitDma2 sm src dst hsrc hdst) k) Q) := by
  unfold sent
  iintro #Hc ⟨Hcr, Hat⟩ HO Hk
  iapply (wait_cell m K b (false, b, h, t) rfl c i _ (rest_s m c b h t) (by simpa using hl) sm hsm src dst hd) $$ Hc Hcr Hat HO Hk

theorem recv_any (b : Bool) (h h' : Fin 3) (hh : h' = h + 1) (t : Fin 2) (c : Dev nD) (i : ℕ) (hl : ∀ y ∈ sends.drop i, h.val + 2 < y.2.1.val + 2)
    (sm : DmaSem sig) (hsm : sm = dsem (true, b, h, t)) {sp sp' : Space} {s s' : Shape} {e e' : EltTy} (src : Memref sig .tc sp s e) (dst : Memref sig .tc sp' s' e') (hd : dst.view.dmaCredit = Nc b)
    {hsrc : src.view.WordExact} {hdst : dst.view.WordExact} :
    ctx m K ⊢ iprop(recvTok b h t c -∗ owesN c i
        -∗ (slot b h' t c (part m b t h.val (fwd (!b) c)) -∗ (if h = 1 then slotAny (!b) 0 t (fwd (!b) c) else emp) -∗ zero (true, b, h, t) c -∗ owesN c i -∗ wpK c (k ⟨⟩) Q)
        -∗ wpK c (.op (.waitDma2 sm src dst hsrc hdst) k) Q) := by
  subst hh
  unfold recvTok
  iintro #Hc ⟨Hcr, Hat⟩ HO Hk
  iapply (wait_cell m K b (true, b, h, t) rfl c i _ (rest_r m c b h t) (by simpa using hl) sm hsm src dst hd) $$ Hc Hcr Hat HO
  unfold recvPay
  iintro ⟨H1, H2⟩ Hz HO
  iapply Hk $$ H1 H2 Hz HO

/-- A transfer of the first or the last hop. -/
theorem send_end (b : Bool) (h h' : Fin 3) (t : Fin 2) (c n : Dev nD) (i i' : ℕ) (hi' : i' = i + 1) (h1 : h ≠ 1) (hn : n = fwd b c) (hh : h' = h + 1)
    (hi : sends.drop i = (b, h, t) :: sends.drop (i + 1)) (sS sR : DmaSem sig) (hsS : sS = dsem (false, b, h, t)) (hsR : sR = dsem (true, b, h, t))
    (X : S1024x512.Idx → Elt F .f32) (hX : X = part m b t h.val c)
    {hsc : (slotM b h' t : Memref sig (Dev.tc n : Thread nD τ).2.kind .vmem S1024x512 .f32).view.ref.isScScratch = false}
    {hsrc : (slotM b h t).view.WordExact} {hdst : (slotM b h' t).view.WordExact}
    {hsem : DmaTarget.Typed .vmem (.dma sR) (.remote (Dev.tc n : Thread nD τ) (slotM b h' t : Memref sig (Dev.tc n : Thread nD τ).2.kind .vmem S1024x512 .f32) (.dma sS) hsc)} :
    ctx m K ⊢ iprop(sendTok b h t c -∗ slot b h t c X -∗ slotAny b h' t (fwd b c) -∗ owesN c i
        -∗ (sent b h t c -∗ owesN c i' -∗ wpK c (k ⟨⟩) Q)
        -∗ wpK c (.op (.enqueueDma (slotM b h t) (.remote (Dev.tc n : Thread nD τ) (slotM b h' t : Memref sig (Dev.tc n : Thread nD τ).2.kind .vmem S1024x512 .f32) (.dma sS) hsc) (.dma sR) hsrc hdst hsem) k) Q) := by
  subst hX hi'
  iintro #Hc Ht Hs Hd HO Hk
  iapply (send_any m K b h h' t c n i hn hh hi sS sR hsS hsR) $$ Hc Ht Hs Hd [] HO Hk
  rw [if_neg h1]; iempintro

/-- A transfer of the middle hop. -/
theorem send_mid (b nb : Bool) (hnb : nb = !b) (t : Fin 2) (c n : Dev nD) (i i' : ℕ) (hi' : i' = i + 1) (hn : n = fwd b c)
    (hi : sends.drop i = (b, 1, t) :: sends.drop (i + 1)) (sS sR : DmaSem sig) (hsS : sS = dsem (false, b, 1, t)) (hsR : sR = dsem (true, b, 1, t))
    (X : S1024x512.Idx → Elt F .f32) (hX : X = part m b t (1 : Fin 3).val c)
    {hsc : (slotM b 2 t : Memref sig (Dev.tc n : Thread nD τ).2.kind .vmem S1024x512 .f32).view.ref.isScScratch = false}
    {hsrc : (slotM b 1 t).view.WordExact} {hdst : (slotM b 2 t).view.WordExact}
    {hsem : DmaTarget.Typed .vmem (.dma sR) (.remote (Dev.tc n : Thread nD τ) (slotM b 2 t : Memref sig (Dev.tc n : Thread nD τ).2.kind .vmem S1024x512 .f32) (.dma sS) hsc)} :
    ctx m K ⊢ iprop(sendTok b 1 t c -∗ slot b 1 t c X -∗ slotAny b 2 t (fwd b c) -∗ slotAny nb 0 t c -∗ owesN c i
        -∗ (sent b 1 t c -∗ owesN c i' -∗ wpK c (k ⟨⟩) Q)
        -∗ wpK c (.op (.enqueueDma (slotM b 1 t) (.remote (Dev.tc n : Thread nD τ) (slotM b 2 t : Memref sig (Dev.tc n : Thread nD τ).2.kind .vmem S1024x512 .f32) (.dma sS) hsc) (.dma sR) hsrc hdst hsem) k) Q) := by
  subst hX hi' hnb
  iintro #Hc Ht Hs Hd He HO Hk
  iapply (send_any m K b 1 2 t c n i hn rfl hi sS sR hsS hsR) $$ Hc Ht Hs Hd [He] HO Hk
  rw [if_pos rfl]; iexact He

theorem recv_end (b nb : Bool) (hnb : nb = !b) (h h' : Fin 3) (j : ℕ) (hj : j = h.val) (h1 : h ≠ 1) (hh : h' = h + 1) (t : Fin 2) (c : Dev nD) (i : ℕ) (hl : ∀ y ∈ sends.drop i, h.val + 2 < y.2.1.val + 2)
    (sm : DmaSem sig) (hsm : sm = dsem (true, b, h, t)) {sp sp' : Space} {s s' : Shape} {e e' : EltTy} (src : Memref sig .tc sp s e) (dst : Memref sig .tc sp' s' e') (hd : dst.view.dmaCredit = Nc b)
    {hsrc : src.view.WordExact} {hdst : dst.view.WordExact} :
    ctx m K ⊢ iprop(recvTok b h t c -∗ owesN c i
        -∗ (slot b h' t c (part m b t j (fwd nb c)) -∗ zero (true, b, h, t) c -∗ owesN c i -∗ wpK c (k ⟨⟩) Q)
        -∗ wpK c (.op (.waitDma2 sm src dst hsrc hdst) k) Q) := by
  subst hj hnb
  iintro #Hc Ht HO Hk
  iapply (recv_any m K b h h' hh t c i hl sm hsm src dst hd) $$ Hc Ht HO
  iintro H - Hz HO
  iapply Hk $$ H Hz HO

theorem recv_mid (b nb : Bool) (hnb : nb = !b) (t : Fin 2) (c : Dev nD) (i : ℕ) (hl : ∀ y ∈ sends.drop i, 1 + 2 < y.2.1.val + 2)
    (sm : DmaSem sig) (hsm : sm = dsem (true, b, 1, t)) {sp sp' : Space} {s s' : Shape} {e e' : EltTy} (src : Memref sig .tc sp s e) (dst : Memref sig .tc sp' s' e') (hd : dst.view.dmaCredit = Nc b)
    {hsrc : src.view.WordExact} {hdst : dst.view.WordExact} :
    ctx m K ⊢ iprop(recvTok b 1 t c -∗ owesN c i
        -∗ (slot b 2 t c (part m b t 1 (fwd nb c)) -∗ slotAny nb 0 t (fwd nb c) -∗ zero (true, b, 1, t) c -∗ owesN c i -∗ wpK c (k ⟨⟩) Q)
        -∗ wpK c (.op (.waitDma2 sm src dst hsrc hdst) k) Q) := by
  subst hnb
  iintro #Hc Ht HO Hk
  iapply (recv_any m K b 1 2 rfl t c i hl sm hsm src dst hd) $$ Hc Ht HO
  iintro H H2 Hz HO
  ihave H2 := (Entails.of_eq (if_pos (rfl : (1 : Fin 3) = 1))) $$ H2
  iapply Hk $$ [H] H2 Hz HO
  iexact H

/-! ## The entry barrier -/

/-- The barrier cell's counter, home at zero. -/
def barZero (c : Dev nD) : sProp 𝕄 := semVal ((c : Thread nD τ), .reg barS) 0

theorem signal_step (b nb : Bool) (hnb : nb = !b) (c n : Dev nD) (hn : n = fwd nb c) (O : CellTallies nD τ sig Unit) (W : Waits sig Unit) (a : ℕ) (ha : a = 1) :
    ctx m K ⊢ iprop(dutyTok ER (barC (fwd nb c)) 0 b -∗ lent b c -∗ owes (c : Thread nD τ) (O + tallyAt (barC (fwd nb c)) () 1) W
        -∗ (owes (c : Thread nD τ) O W -∗ wpK c (k ⟨⟩) Q)
        -∗ wpK c (.op (.semSignal (Dev.tc n : Thread nD τ) barS a) k) Q) := by
  subst hn ha hnb
  iintro #Hc Ht Hl HO Hk
  iapply (Rounds.wp_signal 𝒱₀ ER (Rd m) (c : Thread nD τ) none (dst := (fwd (!b) c : Thread nD τ)) (κ := K (fwd (!b) c, none))
      (d := b) (by rw [show ((fwd (!b) c : Thread nD τ), SemLoc.reg barS) = barC (fwd (!b) c) from rfl, duties_bar]; exact Finset.mem_univ _)
      (amount_bar m (fwd (!b) c) b) () O rfl) $$ [Ht Hl HO]
  · isplitr; · iapply (ctx_inv m K (fwd (!b) c) none); iexact Hc
    isplitl [HO]; · iexact HO
    isplitl [Ht]; · iexact Ht
    isplitl [Hl]
    · rw [show ((fwd (!b) c : Thread nD τ), SemLoc.reg barS) = barC (fwd (!b) c) from rfl, payload_bar]; unfold barPay; rw [fwd_fwd_not]; iexact Hl
    · iapply (ctx_reached m K (fwd (!b) c) none); iexact Hc
  iintro HO
  iapply Hk $$ HO

theorem bar_wait (c : Dev nD) (a : ℕ) (ha : a = 2) :
    ctx m K ⊢ iprop(cred (tallyAt (barC c) () 2) -∗ atPos ER (barC c) 0 ∅ 0 -∗ owesN c 0
        -∗ (lent false (fwd false c) -∗ lent true (fwd true c) -∗ barZero c -∗ owesN c 0 -∗ wpK c (k ⟨⟩) Q)
        -∗ wpK c (.op (.semWait barS a) k) Q) := by
  subst ha
  unfold owesN
  iintro #Hc Hcr Hat ⟨%W, HO⟩ Hk
  iapply (Rounds.wp_wait_rest_token 𝒱₀ ER (Rd m) (c : Thread nD τ) none (κ := K (c, none))
      (wpE_semWait_eq 𝒱₀ (c : Thread nD τ) none Set.univ) (Set.mem_univ _) () (O := dues c (sends.drop 0)) (W := W) (R := 0) (m := 0) (T := ∅)
      (by rw [show ((c : Thread nD τ), SemLoc.reg barS) = barC c from rfl, expect_bar])) $$ [Hcr HO Hat]
  · isplitr; · iapply (ctx_inv m K c none); iexact Hc
    isplitl [Hcr]; · iexact Hcr
    isplitl [HO]; · iexact HO
    isplitr
    · iapply (mayWait_dues c (.reg barS) _ 1 (by
        unfold lv; rw [show ((c : Thread nD τ), SemLoc.reg barS).2 = csem none from rfl, kx_csem]) (fun y _ => by omega))
      iapply (ctx_lev m K); iexact Hc
    · iexact Hat
  iintro ⟨HO, Hat, -, Hpay⟩
  imod (Rounds.cell_close ER (Rd m) (Set.mem_univ (K (c, none))) (fun h => h) (R := 0 + 1) (duties_later m (barC c))) $$ [Hat] with Hz
  · isplitr; · iapply (ctx_inv m K c none); iexact Hc
    iexact Hat
  have hP : bigSep ((Rd (F := F) m).duties ((c : Thread nD τ), .reg barS) 0 \ ∅) (fun d => (Rd (F := F) m).payload ((c : Thread nD τ), .reg barS) 0 d)
      = iprop(barPay false c ∗ barPay true c) := rest_bar m c
  ihave Hp := (Entails.of_eq hP) $$ Hpay
  unfold barPay
  icases Hp with ⟨H1, H2⟩
  iapply Hk $$ H1 H2 [Hz] [HO]
  · unfold barZero; iexact Hz
  · iexists _; iexact HO

end Ring

end Cert.RingProof
end
end
-- ==== Proof.Body.lean ====
/-
# The kernel's body, part by part

The printed body is cut into parts. Each lemma here runs one part: it names what the part takes and what it gives
back, so that the whole body is their composition.
-/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Kx → ℕ)

/-! ## Spellings -/

/-- The block of rows slot `i` of the left operand's buffer holds. -/
def sb (i : Fin 4) (c : Dev nD) : Dev nD := ⟨(c.val + (![3, 1, 2, 0] : Fin 4 → ℕ) i) % 4, Nat.mod_lt _ (by decide)⟩

/-- The semaphores of the copies within a device: four for the left operand, two for the right, four for the result. -/
def lsem (i : Fin 10) : DmaSem sig := ⟨24 + i.val, by show _ < 34; omega⟩
def lzero (i : Fin 10) (c : Dev nD) : sProp 𝕄 := semVal ((c : Thread nD τ), .dma (lsem i)) 0
theorem kx_lsem (i : Fin 10) : kx (.dma (lsem i)) = none := by revert i; decide

theorem xsrc (i : Fin 4) (c : Dev nD) (w : BitVec 32) (hw : k0_off1 c w = ![1024 * (sb i c).val, 0]) (inb) :
    (Memref.whole main_arg0).slice (Rect.unit (s := S4096x1024) (k0_off1 c w) S1024x1024.size inb) (fun _ => rfl) = xblkM (sb i c) :=
  Memref.slice_unit_congr _ hw _ _ _ _

theorem off0 (c : Dev nD) : k0_off1 c 4294967295#32 = ![1024 * (sb 0 c).val, 0] := by revert c; decide +kernel
theorem off1 (c : Dev nD) : k0_off1 c 1#32 = ![1024 * (sb 1 c).val, 0] := by revert c; decide +kernel
theorem off2 (c : Dev nD) : k0_off1 c 4294967294#32 = ![1024 * (sb 2 c).val, 0] := by revert c; decide +kernel
theorem off3 (c : Dev nD) : k0_off1 c 0#32 = ![1024 * (sb 3 c).val, 0] := by revert c; decide +kernel

theorem dev1_eq (c : Dev nD) : (⟨k0_dev1 c, k0_dev1_lt c⟩ : Dev nD) = fwd true c := by revert c; decide +kernel
theorem dev2_eq (c : Dev nD) : (⟨k0_dev2 c, k0_dev2_lt c⟩ : Dev nD) = fwd false c := by revert c; decide +kernel
theorem dev3_eq (c : Dev nD) : (⟨k0_dev3 c, k0_dev3_lt c⟩ : Dev nD) = fwd false c := by revert c; decide +kernel
theorem dev4_eq (c : Dev nD) : (⟨k0_dev4 c, k0_dev4_lt c⟩ : Dev nD) = fwd false c := by revert c; decide +kernel
theorem dev5_eq (c : Dev nD) : (⟨k0_dev5 c, k0_dev5_lt c⟩ : Dev nD) = fwd true c := by revert c; decide +kernel
theorem dev6_eq (c : Dev nD) : (⟨k0_dev6 c, k0_dev6_lt c⟩ : Dev nD) = fwd true c := by revert c; decide +kernel
theorem dev7_eq (c : Dev nD) : (⟨k0_dev7 c, k0_dev7_lt c⟩ : Dev nD) = fwd false c := by revert c; decide +kernel
theorem dev8_eq (c : Dev nD) : (⟨k0_dev8 c, k0_dev8_lt c⟩ : Dev nD) = fwd true c := by revert c; decide +kernel
theorem dev9_eq (c : Dev nD) : (⟨k0_dev9 c, k0_dev9_lt c⟩ : Dev nD) = fwd false c := by revert c; decide +kernel
theorem dev10_eq (c : Dev nD) : (⟨k0_dev10 c, k0_dev10_lt c⟩ : Dev nD) = fwd true c := by revert c; decide +kernel
theorem dev11_eq (c : Dev nD) : (⟨k0_dev11 c, k0_dev11_lt c⟩ : Dev nD) = fwd false c := by revert c; decide +kernel
theorem dev12_eq (c : Dev nD) : (⟨k0_dev12 c, k0_dev12_lt c⟩ : Dev nD) = fwd true c := by revert c; decide +kernel
theorem dev13_eq (c : Dev nD) : (⟨k0_dev13 c, k0_dev13_lt c⟩ : Dev nD) = fwd false c := by revert c; decide +kernel
theorem dev14_eq (c : Dev nD) : (⟨k0_dev14 c, k0_dev14_lt c⟩ : Dev nD) = fwd true c := by revert c; decide +kernel

/-- The left operand's block on its way into slot `i`. -/
def xfly (i : Fin 4) (j : Fin 10) (c : Dev nD) : sProp 𝕄 := flying c (xblkM (sb i c)) (xslotM i) (lsem j) (xb m c (sb i c))
def wfly (b : Bool) (j : Fin 10) (c : Dev nD) : sProp 𝕄 := flying c (wHbmM b) (wVmemM b) (lsem j) (wh m c b)
/-- The left operand's block, and the right operand's half, at home. -/
def xhome (i : Fin 4) (c : Dev nD) : sProp 𝕄 := owns (c : Thread nD τ) (xblkM (sb i c)) fullShare (xb m c (sb i c))
def whome (b : Bool) (c : Dev nD) : sProp 𝕄 := owns (c : Thread nD τ) (wHbmM b) fullShare (wh m c b)
def xany (i : Fin 4) (c : Dev nD) : sProp 𝕄 := iprop(∃ Y, owns (c : Thread nD τ) (xslotM i) fullShare Y)
def wany (b : Bool) (c : Dev nD) : sProp 𝕄 := iprop(∃ Y, owns (c : Thread nD τ) (wVmemM b) fullShare Y)
/-- A slot loaded with its block. -/
def xs (i : Fin 4) (c : Dev nD) : sProp 𝕄 := xslot i c (xb m c (sb i c))

section Locals
variable {α : Type} {Q : α → sProp (MT nD τ sig Unit (Elt F) ℕ UU ℕ)} {k : PUnit → Prog (TpuEff nD τ sig (Elt F) Λ₀ .tc) α}

theorem x_start (i : Fin 4) (j : Fin 10) (c : Dev nD) (src : Memref sig .tc .hbm S1024x1024 .f32) (hs : src = xblkM (sb i c)) (sm : DmaSem sig) (hsm : sm = lsem j)
    {hsrc : src.view.WordExact} {hdst : (xslotM i).view.WordExact} {hsem : DmaTarget.Typed (nD := nD) (τ := τ) (p := .tc) .hbm (.dma sm) (.here (xslotM i))} :
    xhome m i c ⊢ iprop(xany i c -∗ lzero j c -∗ (xfly m i j c -∗ wpK c (k ⟨⟩) Q)
      -∗ wpK c (.op (.enqueueDma src (.here (xslotM i)) (.dma sm) hsrc hdst hsem) k) Q) := by
  subst hs hsm
  unfold xhome xany lzero xfly
  exact copy_start c (xblkM (sb i c)) (xslotM i) (lsem j) _ (View.dmaCredit_pos _ (by decide))

theorem x_wait (i : Fin 4) (j : Fin 10) (c : Dev nD) (n : ℕ) (src : Memref sig .tc .hbm S1024x1024 .f32) (hs : src = xblkM (sb i c)) (sm : DmaSem sig) (hsm : sm = lsem j)
    {hsrc : src.view.WordExact} {hdst : (xslotM i).view.WordExact} :
    ctx m K ⊢ iprop(xfly m i j c -∗ owesN c n -∗ (xs m i c -∗ xhome m i c -∗ lzero j c -∗ owesN c n -∗ wpK c (k ⟨⟩) Q)
      -∗ wpK c (.op (.waitDma2 sm src (xslotM i) hsrc hdst) k) Q) := by
  subst hs hsm
  unfold xfly xs xslot xhome lzero
  exact copy_wait m K c n (xblkM (sb i c)) (xslotM i) (lsem j) _ (kx_lsem j)

theorem load_xs (i : Fin 4) (c : Dev nD)
    {hl : (Memref.whole cc0_scratch0).view.LoadsAt (xslotR i).toLoadRect} {k : (S1x1024x1024.Idx → Elt F .f32) → Prog (TpuEff nD τ sig (Elt F) Λ₀ .tc) α} :
    xs m i c ⊢ iprop((xs m i c -∗ wpK c (k (shapeCast S1x1024x1024 (xb m c (sb i c)) h1024)) Q)
      -∗ wpK c (.op (.load (Memref.whole cc0_scratch0) (xslotR i).toLoadRect hl) k) Q) :=
  load_x i c (xb m c (sb i c))

theorem w_start (b : Bool) (j : Fin 10) (c : Dev nD) (sm : DmaSem sig) (hsm : sm = lsem j)
    {hsrc : (wHbmM b).view.WordExact} {hdst : (wVmemM b).view.WordExact} {hsem : DmaTarget.Typed (nD := nD) (τ := τ) (p := .tc) .hbm (.dma sm) (.here (wVmemM b))} :
    whome m b c ⊢ iprop(wany b c -∗ lzero j c -∗ (wfly m b j c -∗ wpK c (k ⟨⟩) Q)
      -∗ wpK c (.op (.enqueueDma (wHbmM b) (.here (wVmemM b)) (.dma sm) hsrc hdst hsem) k) Q) := by
  subst hsm
  unfold whome wany lzero wfly
  exact copy_start c (wHbmM b) (wVmemM b) (lsem j) _ (View.dmaCredit_pos _ (by decide))

theorem w_wait (b : Bool) (j : Fin 10) (c : Dev nD) (n : ℕ) (sm : DmaSem sig) (hsm : sm = lsem j)
    {hsrc : (wHbmM b).view.WordExact} {hdst : (wVmemM b).view.WordExact} :
    ctx m K ⊢ iprop(wfly m b j c -∗ owesN c n -∗ (whalf m b c -∗ whome m b c -∗ lzero j c -∗ owesN c n -∗ wpK c (k ⟨⟩) Q)
      -∗ wpK c (.op (.waitDma2 sm (wHbmM b) (wVmemM b) hsrc hdst) k) Q) := by
  subst hsm
  unfold wfly whalf whome lzero
  exact copy_wait m K c n (wHbmM b) (wVmemM b) (lsem j) _ (kx_lsem j)

end Locals

/-! ## The values -/

theorem term_eq (i : Fin 4) (b : Bool) (t : Fin 2) (h : Fin 4) (c : Dev nD) (hs : blk b h c = sb i c) (h') :
    matmul dot_S1024x1024_S1024x512_S1024x512_1_0_0_1_n_n none
      (shapeCast S1024x1024 (shapeCast S1x1024x1024 (xb m c (sb i c)) h1024) h' : FVec F S1024x1024 .f32) (wt m c b t : FVec F S1024x512 .f32)
      (constant S1024x512 .f32 0x00000000#32) = term m b t h c := by
  unfold term dotT
  rw [hs, shapeCast_back]

theorem term_eq' (i : Fin 4) (b : Bool) (t : Fin 2) (h : Fin 4) (c : Dev nD) (hs : blk b h c = sb i c) :
    matmul dot_S1024x1024_S1024x512_S1024x512_1_0_0_1_n_n none (xb m c (sb i c) : FVec F S1024x1024 .f32) (wt m c b t : FVec F S1024x512 .f32)
      (constant S1024x512 .f32 0x00000000#32) = term m b t h c := by
  unfold term dotT
  rw [hs]

theorem add_eq (b nb : Bool) (hnb : nb = !b) (t : Fin 2) (n : ℕ) (h : Fin 4) (hh : h = Fin.ofNat 4 (n + 1)) (c : Dev nD) (h') :
    addf (shapeCast S1024x512 (shapeCast S1x1x1024x512 (part m b t n (fwd nb c)) h512) h' : FVec F S1024x512 .f32) (term m b t h c : FVec F S1024x512 .f32)
      = part m b t (n + 1) c := by
  subst hh hnb
  rw [shapeCast_back]
  rfl

/-! ## Small steps -/

theorem slot_congr (b : Bool) (h : Fin 3) (t : Fin 2) (c : Dev nD) {X Y : Vec F S1024x512 .f32} (hXY : X = Y) : slot b h t c X ⊢ slot b h t c Y := by
  subst hXY; exact BIBase.Entails.refl

theorem wpK_ret {α : Type} {Q : α → sProp (MT nD τ sig Unit (Elt F) ℕ UU ℕ)} (c : Dev nD) {a : α} (a' : α) (ha : a = a') : Q a' ⊢ wpK c (.ret a) Q := by
  subst ha
  unfold wpK
  rw [wp_ret]
  iintro H
  imodintro
  iexact H

theorem wpK_ret2 {A B : Type} {Q : (Σ' (_ : A), B) → sProp (MT nD τ sig Unit (Elt F) ℕ UU ℕ)} (c : Dev nD) {a a' : A} {b b' : B} (ha : a = a') (hb : b = b') :
    Q ⟨a', b'⟩ ⊢ wpK c (.ret (⟨a, b⟩ : Σ' (_ : A), B)) Q := by
  subst ha hb; exact wpK_ret c _ rfl

theorem wpK_ret4 {A B C D : Type} {Q : (Σ' (_ : A) (_ : B) (_ : C), D) → sProp (MT nD τ sig Unit (Elt F) ℕ UU ℕ)} (c : Dev nD) {a a' : A} {b b' : B} {x : C} {y : D}
    (ha : a = a') (hb : b = b') : iprop(∀ x y, Q ⟨a', b', x, y⟩) ⊢ wpK c (.ret (⟨a, b, x, y⟩ : Σ' (_ : A) (_ : B) (_ : C), D)) Q := by
  subst ha hb
  iintro H
  iapply (wpK_ret c _ rfl)
  iapply H

/-- A result tile on its way out of its slot. -/
def ofly (b : Bool) (t : Fin 2) (j : Fin 10) (c : Dev nD) : sProp 𝕄 := flying c (slotM b 0 t) (outM b t) (lsem j) (part m b t 3 c)
def oany (b : Bool) (t : Fin 2) (c : Dev nD) : sProp 𝕄 := iprop(∃ Y, owns (c : Thread nD τ) (outM b t) fullShare Y)
/-- A result tile in place. -/
def odone (b : Bool) (t : Fin 2) (c : Dev nD) : sProp 𝕄 := owns (c : Thread nD τ) (outM b t) fullShare (part m b t 3 c)

section Outs
variable {α : Type} {Q : α → sProp (MT nD τ sig Unit (Elt F) ℕ UU ℕ)} {k : PUnit → Prog (TpuEff nD τ sig (Elt F) Λ₀ .tc) α}

theorem o_start (b : Bool) (t : Fin 2) (j : Fin 10) (c : Dev nD) (sm : DmaSem sig) (hsm : sm = lsem j)
    {hsrc : (slotM b 0 t).view.WordExact} {hdst : (outM b t).view.WordExact} {hsem : DmaTarget.Typed (nD := nD) (τ := τ) (p := .tc) .vmem (.dma sm) (.here (outM b t))} :
    slot b 0 t c (part m b t 3 c) ⊢ iprop(oany b t c -∗ lzero j c -∗ (ofly m b t j c -∗ wpK c (k ⟨⟩) Q)
      -∗ wpK c (.op (.enqueueDma (slotM b 0 t) (.here (outM b t)) (.dma sm) hsrc hdst hsem) k) Q) := by
  subst hsm
  unfold slot oany lzero ofly
  exact copy_start c (slotM b 0 t) (outM b t) (lsem j) _ (View.dmaCredit_pos _ (by decide))

theorem o_wait (b : Bool) (t : Fin 2) (j : Fin 10) (c : Dev nD) (n : ℕ) (sm : DmaSem sig) (hsm : sm = lsem j)
    {hsrc : (slotM b 0 t).view.WordExact} {hdst : (outM b t).view.WordExact} :
    ctx m K ⊢ iprop(ofly m b t j c -∗ owesN c n -∗ (odone m b t c -∗ slot b 0 t c (part m b t 3 c) -∗ lzero j c -∗ owesN c n -∗ wpK c (k ⟨⟩) Q)
      -∗ wpK c (.op (.waitDma2 sm (slotM b 0 t) (outM b t) hsrc hdst) k) Q) := by
  subst hsm
  unfold ofly odone slot lzero
  exact copy_wait m K c n (slotM b 0 t) (outM b t) (lsem j) _ (kx_lsem j)

end Outs

section Parts
variable (a0 : (Memref.whole main_arg0).IsWhole) (a1 : (Memref.whole main_arg1).IsWhole) (a2 : (Memref.whole main_v1).IsWhole) (a3 : (Memref.whole cc0_scratch0).IsWhole)
  (a4 : (Memref.whole cc0_scratch1).IsWhole) (a5 : (Memref.whole cc0_scratch2).IsWhole) (a6 : (Memref.whole cc0_scratch3).IsWhole)
theorem part2_run (c : Dev nD) (v14 v25 v29 v30 : BitVec 32) (v31 v32 v33 : BitVec 1) (W : Waits sig Unit) {Q : PUnit → sProp (MT nD τ sig Unit (Elt F) ℕ UU ℕ)} :
    ctx m K ⊢ iprop(whome m false c -∗ wany false c -∗ lzero 4 c -∗ xhome m 0 c -∗ xany 0 c -∗ lzero 0 c -∗ dutyTok ER (barC (fwd true c)) 0 false -∗ dutyTok ER (barC (fwd false c)) 0 true -∗ lent false c -∗ lent true c -∗ owes (c : Thread nD τ) (O₀ c) W -∗ cred (tallyAt (barC c) () 2) -∗ atPos ER (barC c) 0 ∅ 0 -∗ (whome m false c -∗ lzero 4 c -∗ xfly m 0 0 c -∗ owesN c 0 -∗ lent false (fwd false c) -∗ lent true (fwd true c) -∗ barZero c -∗ whalf m false c -∗ Q ⟨⟩)
      -∗ wpK c (k0_part2 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v14 v25 v29 v30 v31 v32 v33) Q) := by
  rw [k0_part2_eq_skeleton]
  unfold k0_part2_skel
  simp only [semSignalWord, semWaitWord, Prog.lift, Prog.bind_op, Prog.bind_ret, Prog.pure_eq_ret]
  unfold O₀ O₁
  iintro #Hc wh0 wa0 z4 xh0 xa0 z0 dt1 dt2 l1 l2 HO Hcr Hat Hk
  iapply (w_start m false 4 c _ rfl) $$ wh0 wa0 z4
  iintro wf0
  iapply (x_start m 0 0 c _ (xsrc 0 c _ (off0 c) _) _ rfl) $$ xh0 xa0 z0
  iintro xf0
  iapply (signal_step m K false true rfl c _ (dev1_eq c) _ W _ rfl) $$ Hc dt1 l1 HO
  iintro HO
  iapply (signal_step m K true false rfl c _ (dev2_eq c) _ W _ rfl) $$ Hc dt2 l2 HO
  iintro HO
  iapply (bar_wait m K c _ rfl) $$ Hc Hcr Hat [HO]
  · unfold owesN; iexists W; iexact HO
  iintro k1 k2 bz HO
  iapply (w_wait m K false 4 c 0 _ rfl) $$ Hc wf0 HO
  iintro w0 wh0 z4 HO
  iapply (wpK_ret c ⟨⟩ rfl)
  iapply Hk $$ wh0 z4 xf0 HO k1 k2 bz w0

theorem part3_run (c : Dev nD) (v2 : BitVec 32) {Q : FVec F S1024x512 .f32 → sProp (MT nD τ sig Unit (Elt F) ℕ UU ℕ)} :
    ctx m K ⊢ iprop(xfly m 0 0 c -∗ owesN c 0 -∗ whome m true c -∗ wany true c -∗ lzero 5 c -∗ xhome m 1 c -∗ xany 1 c -∗ lzero 1 c -∗ whalf m false c -∗ (owesN c 0 -∗ xs m 0 c -∗ xhome m 0 c -∗ lzero 0 c -∗ wfly m true 5 c -∗ xfly m 1 1 c -∗ whalf m false c -∗ Q (part m false 0 0 c))
      -∗ wpK c (k0_part3 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v2) Q) := by
  rw [k0_part3_eq_skeleton]
  unfold k0_part3_skel
  simp only [semSignalWord, semWaitWord, Prog.lift, Prog.bind_op, Prog.bind_ret, Prog.pure_eq_ret]
  iintro #Hc xf0 HO wh1 wa1 z5 xh1 xa1 z1 w0 Hk
  iapply (x_wait m K 0 0 c 0 _ (xsrc 0 c _ (off0 c) _) _ rfl) $$ Hc xf0 HO
  iintro xs0 xh0 z0 HO
  iapply (w_start m true 5 c _ rfl) $$ wh1 wa1 z5
  iintro wf1
  iapply (x_start m 1 1 c _ (xsrc 1 c _ (off1 c) _) _ rfl) $$ xh1 xa1 z1
  iintro xf1
  iapply (load_xs m 0 c) $$ xs0
  iintro xs0
  iapply (load_w m false 0 c) $$ w0
  iintro w0
  iapply (wpK_ret c (part m false 0 0 c) (term_eq m 0 false 0 0 c (by revert c; decide) _))
  iapply Hk $$ HO xs0 xh0 z0 wf1 xf1 w0

theorem part4_run (c : Dev nD) (v25 : BitVec 32) {Q : PUnit → sProp (MT nD τ sig Unit (Elt F) ℕ UU ℕ)} :
    ctx m K ⊢ iprop(slotAny false 0 0 c -∗ sendTok false 0 0 c -∗ slotAny false 1 0 (fwd false c) -∗ owesN c 0 -∗ xs m 0 c -∗ whalf m false c -∗ slotAny false 0 1 c -∗ (owesN c 1 -∗ sent false 0 0 c -∗ xs m 0 c -∗ whalf m false c -∗ slot false 0 1 c (part m false 1 0 c) -∗ Q ⟨⟩)
      -∗ wpK c (k0_part4 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v25 (part m false 0 0 c)) Q) := by
  rw [k0_part4_eq_skeleton]
  unfold k0_part4_skel
  simp only [semSignalWord, semWaitWord, Prog.lift, Prog.bind_op, Prog.bind_ret, Prog.pure_eq_ret]
  iintro #Hc AR00 stR00 DR10 HO xs0 w0 AR01 Hk
  iapply (load_slotAny false 0 0 c) $$ AR00
  iintro %v AR00
  iapply (store_slot false 0 0 c _) $$ AR00
  iintro SR00
  iapply (send_end m K false 0 1 0 c _ 0 1 rfl (by decide) (dev3_eq c) rfl rfl _ _ rfl rfl (part m false 0 0 c) rfl) $$ Hc stR00 SR00 DR10 HO
  iintro snR00 HO
  iapply (load_xs m 0 c) $$ xs0
  iintro xs0
  iapply (load_w m false 1 c) $$ w0
  iintro w0
  iapply (load_slotAny false 0 1 c) $$ AR01
  iintro %v AR01
  iapply (store_slot false 0 1 c _) $$ AR01
  iintro SR01
  ihave SR01 := (slot_congr false 0 1 c (Y := (part m false 1 0 c)) (term_eq m 0 false 1 0 c (by revert c; decide) _)) $$ [SR01]
  · iexact SR01
  iapply (wpK_ret c ⟨⟩ rfl)
  iapply Hk $$ HO snR00 xs0 w0 SR01

theorem part5_run (c : Dev nD) (v2 : BitVec 32) {Q : PUnit → sProp (MT nD τ sig Unit (Elt F) ℕ UU ℕ)} :
    ctx m K ⊢ iprop(sendTok false 0 1 c -∗ slot false 0 1 c (part m false 1 0 c) -∗ slotAny false 1 1 (fwd false c) -∗ owesN c 1 -∗ wfly m true 5 c -∗ xfly m 1 1 c -∗ (owesN c 2 -∗ sent false 0 1 c -∗ whalf m true c -∗ whome m true c -∗ lzero 5 c -∗ xs m 1 c -∗ xhome m 1 c -∗ lzero 1 c -∗ Q ⟨⟩)
      -∗ wpK c (k0_part5 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v2) Q) := by
  rw [k0_part5_eq_skeleton]
  unfold k0_part5_skel
  simp only [semSignalWord, semWaitWord, Prog.lift, Prog.bind_op, Prog.bind_ret, Prog.pure_eq_ret]
  iintro #Hc stR01 SR01 DR11 HO wf1 xf1 Hk
  iapply (send_end m K false 0 1 1 c _ 1 2 rfl (by decide) (dev4_eq c) rfl rfl _ _ rfl rfl (part m false 1 0 c) rfl) $$ Hc stR01 SR01 DR11 HO
  iintro snR01 HO
  iapply (w_wait m K true 5 c 2 _ rfl) $$ Hc wf1 HO
  iintro w1 wh1 z5 HO
  iapply (x_wait m K 1 1 c 2 _ (xsrc 1 c _ (off1 c) _) _ rfl) $$ Hc xf1 HO
  iintro xs1 xh1 z1 HO
  iapply (wpK_ret c ⟨⟩ rfl)
  iapply Hk $$ HO snR01 w1 wh1 z5 xs1 xh1 z1

theorem part6_run (c : Dev nD) (v2 : BitVec 32) {Q : PUnit → sProp (MT nD τ sig Unit (Elt F) ℕ UU ℕ)} :
    ctx m K ⊢ iprop(xhome m 2 c -∗ xany 2 c -∗ lzero 2 c -∗ xhome m 3 c -∗ xany 3 c -∗ lzero 3 c -∗ xs m 1 c -∗ whalf m true c -∗ slotAny true 0 0 c -∗ (xfly m 2 2 c -∗ xfly m 3 3 c -∗ xs m 1 c -∗ whalf m true c -∗ slot true 0 0 c (part m true 0 0 c) -∗ Q ⟨⟩)
      -∗ wpK c (k0_part6 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v2) Q) := by
  rw [k0_part6_eq_skeleton]
  unfold k0_part6_skel
  simp only [semSignalWord, semWaitWord, Prog.lift, Prog.bind_op, Prog.bind_ret, Prog.pure_eq_ret]
  iintro #Hc xh2 xa2 z2 xh3 xa3 z3 xs1 w1 AL00 Hk
  iapply (x_start m 2 2 c _ (xsrc 2 c _ (off2 c) _) _ rfl) $$ xh2 xa2 z2
  iintro xf2
  iapply (x_start m 3 3 c _ (xsrc 3 c _ (off3 c) _) _ rfl) $$ xh3 xa3 z3
  iintro xf3
  iapply (load_xs m 1 c) $$ xs1
  iintro xs1
  iapply (load_w m true 0 c) $$ w1
  iintro w1
  iapply (load_slotAny true 0 0 c) $$ AL00
  iintro %v AL00
  iapply (store_slot true 0 0 c _) $$ AL00
  iintro SL00
  ihave SL00 := (slot_congr true 0 0 c (Y := (part m true 0 0 c)) (term_eq m 1 true 0 0 c (by revert c; decide) _)) $$ [SL00]
  · iexact SL00
  iapply (wpK_ret c ⟨⟩ rfl)
  iapply Hk $$ xf2 xf3 xs1 w1 SL00

theorem part7_run (c : Dev nD) (v14 : BitVec 32) {Q : PUnit → sProp (MT nD τ sig Unit (Elt F) ℕ UU ℕ)} :
    ctx m K ⊢ iprop(sendTok true 0 0 c -∗ slot true 0 0 c (part m true 0 0 c) -∗ slotAny true 1 0 (fwd true c) -∗ owesN c 2 -∗ xs m 1 c -∗ whalf m true c -∗ slotAny true 0 1 c -∗ (owesN c 3 -∗ sent true 0 0 c -∗ xs m 1 c -∗ whalf m true c -∗ slot true 0 1 c (part m true 1 0 c) -∗ Q ⟨⟩)
      -∗ wpK c (k0_part7 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v14) Q) := by
  rw [k0_part7_eq_skeleton]
  unfold k0_part7_skel
  simp only [semSignalWord, semWaitWord, Prog.lift, Prog.bind_op, Prog.bind_ret, Prog.pure_eq_ret]
  iintro #Hc stL00 SL00 DL10 HO xs1 w1 AL01 Hk
  iapply (send_end m K true 0 1 0 c _ 2 3 rfl (by decide) (dev5_eq c) rfl rfl _ _ rfl rfl (part m true 0 0 c) rfl) $$ Hc stL00 SL00 DL10 HO
  iintro snL00 HO
  iapply (load_xs m 1 c) $$ xs1
  iintro xs1
  iapply (load_w m true 1 c) $$ w1
  iintro w1
  iapply (load_slotAny true 0 1 c) $$ AL01
  iintro %v AL01
  iapply (store_slot true 0 1 c _) $$ AL01
  iintro SL01
  ihave SL01 := (slot_congr true 0 1 c (Y := (part m true 1 0 c)) (term_eq m 1 true 1 0 c (by revert c; decide) _)) $$ [SL01]
  · iexact SL01
  iapply (wpK_ret c ⟨⟩ rfl)
  iapply Hk $$ HO snL00 xs1 w1 SL01

theorem part8_run (c : Dev nD) (v25 : BitVec 32) {Q : (Σ' (_ : FVec F S1024x512 .f32), FVec F S1024x512 .f32) → sProp (MT nD τ sig Unit (Elt F) ℕ UU ℕ)} :
    ctx m K ⊢ iprop(sendTok true 0 1 c -∗ slot true 0 1 c (part m true 1 0 c) -∗ slotAny true 1 1 (fwd true c) -∗ owesN c 3 -∗ xfly m 2 2 c -∗ whalf m false c -∗ whalf m true c -∗ recvTok false 0 0 c -∗ (owesN c 4 -∗ sent true 0 1 c -∗ xs m 2 c -∗ xhome m 2 c -∗ lzero 2 c -∗ whalf m false c -∗ whalf m true c -∗ slot false 1 0 c (part m false 0 0 (fwd true c)) -∗ zero (true, false, 0, 0) c -∗ Q ⟨(term m false 0 1 c), (term m true 0 1 c)⟩)
      -∗ wpK c (k0_part8 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v25) Q) := by
  rw [k0_part8_eq_skeleton]
  unfold k0_part8_skel
  simp only [semSignalWord, semWaitWord, Prog.lift, Prog.bind_op, Prog.bind_ret, Prog.pure_eq_ret]
  iintro #Hc stL01 SL01 DL11 HO xf2 w0 w1 rtR00 Hk
  iapply (send_end m K true 0 1 1 c _ 3 4 rfl (by decide) (dev6_eq c) rfl rfl _ _ rfl rfl (part m true 1 0 c) rfl) $$ Hc stL01 SL01 DL11 HO
  iintro snL01 HO
  iapply (x_wait m K 2 2 c 4 _ (xsrc 2 c _ (off2 c) _) _ rfl) $$ Hc xf2 HO
  iintro xs2 xh2 z2 HO
  iapply (load_xs m 2 c) $$ xs2
  iintro xs2
  iapply (load_w m false 0 c) $$ w0
  iintro w0
  iapply (load_xs m 2 c) $$ xs2
  iintro xs2
  iapply (load_w m true 0 c) $$ w1
  iintro w1
  iapply (recv_end m K false true rfl 0 1 0 rfl (by decide) rfl 0 c 4 (by decide) _ rfl _ _ (slot_credit false 1 0)) $$ Hc rtR00 HO
  iintro SR10 zrR00 HO
  iapply (wpK_ret2 c (term_eq m 2 false 0 1 c (by revert c; decide) _) (term_eq m 2 true 0 1 c (by revert c; decide) _))
  iapply Hk $$ HO snL01 xs2 xh2 z2 w0 w1 SR10 zrR00

theorem part9_run (c : Dev nD) (v14 : BitVec 32) {Q : PUnit → sProp (MT nD τ sig Unit (Elt F) ℕ UU ℕ)} :
    ctx m K ⊢ iprop(recvTok true 0 0 c -∗ owesN c 4 -∗ sent false 0 0 c -∗ (owesN c 4 -∗ slot true 1 0 c (part m true 0 0 (fwd false c)) -∗ zero (true, true, 0, 0) c -∗ slotAny false 0 0 c -∗ zero (false, false, 0, 0) c -∗ Q ⟨⟩)
      -∗ wpK c (k0_part9 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 v14) Q) := by
  rw [k0_part9_eq_skeleton]
  unfold k0_part9_skel
  simp only [semSignalWord, semWaitWord, Prog.lift, Prog.bind_op, Prog.bind_ret, Prog.pure_eq_ret]
  iintro #Hc rtL00 HO snR00 Hk
  iapply (recv_end m K true false rfl 0 1 0 rfl (by decide) rfl 0 c 4 (by decide) _ rfl _ _ (slot_credit true 1 0)) $$ Hc rtL00 HO
  iintro SL10 zrL00 HO
  iapply (send_wait m K false 0 0 c 4 (by decide) _ rfl _ _ (slot_credit false 0 0)) $$ Hc snR00 HO
  iintro AR00 zsR00 HO
  iapply (wpK_ret c ⟨⟩ rfl)
  iapply Hk $$ HO SL10 zrL00 AR00 zsR00

theorem part10_run (c : Dev nD) (v25 : BitVec 32) {Q : PUnit → sProp (MT nD τ sig Unit (Elt F) ℕ UU ℕ)} :
    ctx m K ⊢ iprop(sent true 0 0 c -∗ owesN c 4 -∗ slot false 1 0 c (part m false 0 0 (fwd true c)) -∗ slot true 1 0 c (part m true 0 0 (fwd false c)) -∗ sendTok false 1 0 c -∗ slotAny false 2 0 (fwd false c) -∗ (owesN c 5 -∗ zero (false, true, 0, 0) c -∗ slot true 1 0 c (part m true 0 1 c) -∗ sent false 1 0 c -∗ Q ⟨⟩)
      -∗ wpK c (k0_part10 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v25 (term m false 0 1 c) (term m true 0 1 c)) Q) := by
  rw [k0_part10_eq_skeleton]
  unfold k0_part10_skel
  simp only [semSignalWord, semWaitWord, Prog.lift, Prog.bind_op, Prog.bind_ret, Prog.pure_eq_ret]
  iintro #Hc snL00 HO SR10 SL10 stR10 DR20 Hk
  iapply (send_wait m K true 0 0 c 4 (by decide) _ rfl _ _ (slot_credit true 0 0)) $$ Hc snL00 HO
  iintro AL00 zsL00 HO
  iapply (load_slot false 1 0 c _) $$ SR10
  iintro SR10
  iapply (load_slot false 1 0 c _) $$ SR10
  iintro SR10
  ihave AR10 := (slotAny_intro false 1 0 c _) $$ SR10
  iapply (store_slot false 1 0 c _) $$ AR10
  iintro SR10
  ihave SR10 := (slot_congr false 1 0 c (Y := (part m false 0 1 c)) (add_eq m false true rfl 0 0 1 rfl c _)) $$ [SR10]
  · iexact SR10
  iapply (load_slot true 1 0 c _) $$ SL10
  iintro SL10
  iapply (load_slot true 1 0 c _) $$ SL10
  iintro SL10
  ihave AL10 := (slotAny_intro true 1 0 c _) $$ SL10
  iapply (store_slot true 1 0 c _) $$ AL10
  iintro SL10
  ihave SL10 := (slot_congr true 1 0 c (Y := (part m true 0 1 c)) (add_eq m true false rfl 0 0 1 rfl c _)) $$ [SL10]
  · iexact SL10
  iapply (send_mid m K false true rfl 0 c _ 4 5 rfl (dev7_eq c) rfl _ _ rfl rfl (part m false 0 1 c) rfl) $$ Hc stR10 SR10 DR20 AL00 HO
  iintro snR10 HO
  iapply (wpK_ret c ⟨⟩ rfl)
  iapply Hk $$ HO zsL00 SL10 snR10

theorem part11_run (c : Dev nD) (v14 v25 : BitVec 32) {Q : (Σ' (_ : FVec F S1024x512 .f32), FVec F S1024x512 .f32) → sProp (MT nD τ sig Unit (Elt F) ℕ UU ℕ)} :
    ctx m K ⊢ iprop(sendTok true 1 0 c -∗ slot true 1 0 c (part m true 0 1 c) -∗ slotAny true 2 0 (fwd true c) -∗ slotAny false 0 0 c -∗ owesN c 5 -∗ xs m 2 c -∗ whalf m false c -∗ whalf m true c -∗ (owesN c 6 -∗ sent true 1 0 c -∗ xs m 2 c -∗ whalf m false c -∗ whalf m true c -∗ Q ⟨(term m false 1 1 c), (term m true 1 1 c)⟩)
      -∗ wpK c (k0_part11 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v14 v25) Q) := by
  rw [k0_part11_eq_skeleton]
  unfold k0_part11_skel
  simp only [semSignalWord, semWaitWord, Prog.lift, Prog.bind_op, Prog.bind_ret, Prog.pure_eq_ret]
  iintro #Hc stL10 SL10 DL20 AR00 HO xs2 w0 w1 Hk
  iapply (send_mid m K true false rfl 0 c _ 5 6 rfl (dev8_eq c) rfl _ _ rfl rfl (part m true 0 1 c) rfl) $$ Hc stL10 SL10 DL20 AR00 HO
  iintro snL10 HO
  iapply (load_xs m 2 c) $$ xs2
  iintro xs2
  iapply (load_w m false 1 c) $$ w0
  iintro w0
  iapply (load_xs m 2 c) $$ xs2
  iintro xs2
  iapply (load_w m true 1 c) $$ w1
  iintro w1
  iapply (wpK_ret2 c (term_eq m 2 false 1 1 c (by revert c; decide) _) (term_eq m 2 true 1 1 c (by revert c; decide) _))
  iapply Hk $$ HO snL10 xs2 w0 w1

theorem part12_run (c : Dev nD) (v14 : BitVec 32) {Q : PUnit → sProp (MT nD τ sig Unit (Elt F) ℕ UU ℕ)} :
    ctx m K ⊢ iprop(recvTok false 0 1 c -∗ owesN c 6 -∗ recvTok true 0 1 c -∗ sent false 0 1 c -∗ (owesN c 6 -∗ slot false 1 1 c (part m false 1 0 (fwd true c)) -∗ zero (true, false, 0, 1) c -∗ slot true 1 1 c (part m true 1 0 (fwd false c)) -∗ zero (true, true, 0, 1) c -∗ slotAny false 0 1 c -∗ zero (false, false, 0, 1) c -∗ Q ⟨⟩)
      -∗ wpK c (k0_part12 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 v14) Q) := by
  rw [k0_part12_eq_skeleton]
  unfold k0_part12_skel
  simp only [semSignalWord, semWaitWord, Prog.lift, Prog.bind_op, Prog.bind_ret, Prog.pure_eq_ret]
  iintro #Hc rtR01 HO rtL01 snR01 Hk
  iapply (recv_end m K false true rfl 0 1 0 rfl (by decide) rfl 1 c 6 (by decide) _ rfl _ _ (slot_credit false 1 1)) $$ Hc rtR01 HO
  iintro SR11 zrR01 HO
  iapply (recv_end m K true false rfl 0 1 0 rfl (by decide) rfl 1 c 6 (by decide) _ rfl _ _ (slot_credit true 1 1)) $$ Hc rtL01 HO
  iintro SL11 zrL01 HO
  iapply (send_wait m K false 0 1 c 6 (by decide) _ rfl _ _ (slot_credit false 0 1)) $$ Hc snR01 HO
  iintro AR01 zsR01 HO
  iapply (wpK_ret c ⟨⟩ rfl)
  iapply Hk $$ HO SR11 zrR01 SL11 zrL01 AR01 zsR01

theorem part13_run (c : Dev nD) (v25 : BitVec 32) {Q : PUnit → sProp (MT nD τ sig Unit (Elt F) ℕ UU ℕ)} :
    ctx m K ⊢ iprop(sent true 0 1 c -∗ owesN c 6 -∗ slot false 1 1 c (part m false 1 0 (fwd true c)) -∗ slot true 1 1 c (part m true 1 0 (fwd false c)) -∗ (owesN c 6 -∗ slotAny true 0 1 c -∗ zero (false, true, 0, 1) c -∗ slot false 1 1 c (part m false 1 1 c) -∗ slot true 1 1 c (part m true 1 1 c) -∗ Q ⟨⟩)
      -∗ wpK c (k0_part13 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 v25 (term m false 1 1 c) (term m true 1 1 c)) Q) := by
  rw [k0_part13_eq_skeleton]
  unfold k0_part13_skel
  simp only [semSignalWord, semWaitWord, Prog.lift, Prog.bind_op, Prog.bind_ret, Prog.pure_eq_ret]
  iintro #Hc snL01 HO SR11 SL11 Hk
  iapply (send_wait m K true 0 1 c 6 (by decide) _ rfl _ _ (slot_credit true 0 1)) $$ Hc snL01 HO
  iintro AL01 zsL01 HO
  iapply (load_slot false 1 1 c _) $$ SR11
  iintro SR11
  iapply (load_slot false 1 1 c _) $$ SR11
  iintro SR11
  ihave AR11 := (slotAny_intro false 1 1 c _) $$ SR11
  iapply (store_slot false 1 1 c _) $$ AR11
  iintro SR11
  ihave SR11 := (slot_congr false 1 1 c (Y := (part m false 1 1 c)) (add_eq m false true rfl 1 0 1 rfl c _)) $$ [SR11]
  · iexact SR11
  iapply (load_slot true 1 1 c _) $$ SL11
  iintro SL11
  iapply (load_slot true 1 1 c _) $$ SL11
  iintro SL11
  ihave AL11 := (slotAny_intro true 1 1 c _) $$ SL11
  iapply (store_slot true 1 1 c _) $$ AL11
  iintro SL11
  ihave SL11 := (slot_congr true 1 1 c (Y := (part m true 1 1 c)) (add_eq m true false rfl 1 0 1 rfl c _)) $$ [SL11]
  · iexact SL11
  iapply (wpK_ret c ⟨⟩ rfl)
  iapply Hk $$ HO AL01 zsL01 SR11 SL11

theorem part14_run (c : Dev nD) (v14 v25 : BitVec 32) {Q : (Σ' (_ : FVec F S1024x512 .f32) (_ : FVec F S1024x512 .f32) (_ : BitVec 32), BitVec 32) → sProp (MT nD τ sig Unit (Elt F) ℕ UU ℕ)} :
    ctx m K ⊢ iprop(sendTok false 1 1 c -∗ slot false 1 1 c (part m false 1 1 c) -∗ slotAny false 2 1 (fwd false c) -∗ slotAny true 0 1 c -∗ owesN c 6 -∗ sendTok true 1 1 c -∗ slot true 1 1 c (part m true 1 1 c) -∗ slotAny true 2 1 (fwd true c) -∗ slotAny false 0 1 c -∗ xs m 1 c -∗ whalf m false c -∗ xs m 0 c -∗ whalf m true c -∗ (owesN c 8 -∗ sent false 1 1 c -∗ sent true 1 1 c -∗ xs m 1 c -∗ whalf m false c -∗ xs m 0 c -∗ whalf m true c -∗ ∀ x y, Q ⟨(term m false 0 2 c), (term m true 0 2 c), x, y⟩)
      -∗ wpK c (k0_part14 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v14 v25) Q) := by
  rw [k0_part14_eq_skeleton]
  unfold k0_part14_skel
  simp only [semSignalWord, semWaitWord, Prog.lift, Prog.bind_op, Prog.bind_ret, Prog.pure_eq_ret]
  iintro #Hc stR11 SR11 DR21 AL01 HO stL11 SL11 DL21 AR01 xs1 w0 xs0 w1 Hk
  iapply (send_mid m K false true rfl 1 c _ 6 7 rfl (dev9_eq c) rfl _ _ rfl rfl (part m false 1 1 c) rfl) $$ Hc stR11 SR11 DR21 AL01 HO
  iintro snR11 HO
  iapply (send_mid m K true false rfl 1 c _ 7 8 rfl (dev10_eq c) rfl _ _ rfl rfl (part m true 1 1 c) rfl) $$ Hc stL11 SL11 DL21 AR01 HO
  iintro snL11 HO
  iapply (load_xs m 1 c) $$ xs1
  iintro xs1
  iapply (load_w m false 0 c) $$ w0
  iintro w0
  iapply (load_xs m 0 c) $$ xs0
  iintro xs0
  iapply (load_w m true 0 c) $$ w1
  iintro w1
  iapply (wpK_ret4 c (term_eq m 1 false 0 2 c (by revert c; decide) _) (term_eq m 0 true 0 2 c (by revert c; decide) _))
  iintro %x %y
  iapply Hk $$ HO snR11 snL11 xs1 w0 xs0 w1

theorem part15_run (c : Dev nD) (v14 v346 c0 : BitVec 32) {Q : FVec F S1024x512 .f32 → sProp (MT nD τ sig Unit (Elt F) ℕ UU ℕ)} :
    ctx m K ⊢ iprop(recvTok false 1 0 c -∗ owesN c 8 -∗ recvTok true 1 0 c -∗ (owesN c 8 -∗ slot false 2 0 c (part m false 0 2 c) -∗ slotAny true 0 0 (fwd true c) -∗ zero (true, false, 1, 0) c -∗ slot true 2 0 c (part m true 0 1 (fwd false c)) -∗ slotAny false 0 0 (fwd false c) -∗ zero (true, true, 1, 0) c -∗ Q (part m true 0 2 c))
      -∗ wpK c (k0_part15 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 v14 (term m false 0 2 c) (term m true 0 2 c) v346 c0) Q) := by
  rw [k0_part15_eq_skeleton]
  unfold k0_part15_skel
  simp only [semSignalWord, semWaitWord, Prog.lift, Prog.bind_op, Prog.bind_ret, Prog.pure_eq_ret]
  iintro #Hc rtR10 HO rtL10 Hk
  iapply (recv_mid m K false true rfl 0 c 8 (by decide) _ rfl _ _ (slot_credit false 2 0)) $$ Hc rtR10 HO
  iintro SR20 DL00 zrR10 HO
  iapply (recv_mid m K true false rfl 0 c 8 (by decide) _ rfl _ _ (slot_credit true 2 0)) $$ Hc rtL10 HO
  iintro SL20 DR00 zrL10 HO
  iapply (load_slot false 2 0 c _) $$ SR20
  iintro SR20
  iapply (load_slot false 2 0 c _) $$ SR20
  iintro SR20
  ihave AR20 := (slotAny_intro false 2 0 c _) $$ SR20
  iapply (store_slot false 2 0 c _) $$ AR20
  iintro SR20
  ihave SR20 := (slot_congr false 2 0 c (Y := (part m false 0 2 c)) (add_eq m false true rfl 0 1 2 rfl c _)) $$ [SR20]
  · iexact SR20
  iapply (load_slot true 2 0 c _) $$ SL20
  iintro SL20
  iapply (wpK_ret c (part m true 0 2 c) (add_eq m true false rfl 0 1 2 rfl c _))
  iapply Hk $$ HO SR20 DL00 zrR10 SL20 DR00 zrL10

theorem part16_run (c : Dev nD) (v14 v25 : BitVec 32) {Q : FVec F S1024x1024 .f32 → sProp (MT nD τ sig Unit (Elt F) ℕ UU ℕ)} :
    ctx m K ⊢ iprop(slot true 2 0 c (part m true 0 1 (fwd false c)) -∗ sendTok false 2 0 c -∗ slot false 2 0 c (part m false 0 2 c) -∗ slotAny false 0 0 (fwd false c) -∗ owesN c 8 -∗ sendTok true 2 0 c -∗ slotAny true 0 0 (fwd true c) -∗ xs m 1 c -∗ (owesN c 10 -∗ sent false 2 0 c -∗ sent true 2 0 c -∗ xs m 1 c -∗ Q (xb m c (sb 1 c)))
      -∗ wpK c (k0_part16 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v14 v25 (part m true 0 2 c)) Q) := by
  rw [k0_part16_eq_skeleton]
  unfold k0_part16_skel
  simp only [semSignalWord, semWaitWord, Prog.lift, Prog.bind_op, Prog.bind_ret, Prog.pure_eq_ret]
  iintro #Hc SL20 stR20 SR20 DR00 HO stL20 DL00 xs1 Hk
  iapply (load_slot true 2 0 c _) $$ SL20
  iintro SL20
  ihave AL20 := (slotAny_intro true 2 0 c _) $$ SL20
  iapply (store_slot true 2 0 c _) $$ AL20
  iintro SL20
  iapply (send_end m K false 2 0 0 c _ 8 9 rfl (by decide) (dev11_eq c) rfl rfl _ _ rfl rfl (part m false 0 2 c) rfl) $$ Hc stR20 SR20 DR00 HO
  iintro snR20 HO
  iapply (send_end m K true 2 0 0 c _ 9 10 rfl (by decide) (dev12_eq c) rfl rfl _ _ rfl rfl (part m true 0 2 c) rfl) $$ Hc stL20 SL20 DL00 HO
  iintro snL20 HO
  iapply (load_xs m 1 c) $$ xs1
  iintro xs1
  iapply (wpK_ret c (xb m c (sb 1 c)) (shapeCast_back _ _))
  iapply Hk $$ HO snR20 snL20 xs1

theorem part17_run (c : Dev nD) (v14 v25 : BitVec 32) {Q : (Σ' (_ : FVec F S1024x512 .f32), FVec F S1024x512 .f32) → sProp (MT nD τ sig Unit (Elt F) ℕ UU ℕ)} :
    ctx m K ⊢ iprop(whalf m false c -∗ xs m 0 c -∗ whalf m true c -∗ recvTok false 1 1 c -∗ owesN c 10 -∗ (whalf m false c -∗ xs m 0 c -∗ whalf m true c -∗ owesN c 10 -∗ slot false 2 1 c (part m false 1 1 (fwd true c)) -∗ slotAny true 0 1 (fwd true c) -∗ zero (true, false, 1, 1) c -∗ Q ⟨(term m false 1 2 c), (term m true 1 2 c)⟩)
      -∗ wpK c (k0_part17 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 v14 v25 (xb m c (sb 1 c))) Q) := by
  rw [k0_part17_eq_skeleton]
  unfold k0_part17_skel
  simp only [semSignalWord, semWaitWord, Prog.lift, Prog.bind_op, Prog.bind_ret, Prog.pure_eq_ret]
  iintro #Hc w0 xs0 w1 rtR11 HO Hk
  iapply (load_w m false 1 c) $$ w0
  iintro w0
  iapply (load_xs m 0 c) $$ xs0
  iintro xs0
  iapply (load_w m true 1 c) $$ w1
  iintro w1
  iapply (recv_mid m K false true rfl 1 c 10 (by decide) _ rfl _ _ (slot_credit false 2 1)) $$ Hc rtR11 HO
  iintro SR21 DL01 zrR11 HO
  iapply (wpK_ret2 c (term_eq' m 1 false 1 2 c (by revert c; decide)) (term_eq m 0 true 1 2 c (by revert c; decide) _))
  iapply Hk $$ w0 xs0 w1 HO SR21 DL01 zrR11

theorem part18_run (c : Dev nD) (v25 : BitVec 32) {Q : PUnit → sProp (MT nD τ sig Unit (Elt F) ℕ UU ℕ)} :
    ctx m K ⊢ iprop(recvTok true 1 1 c -∗ owesN c 10 -∗ slot false 2 1 c (part m false 1 1 (fwd true c)) -∗ sendTok false 2 1 c -∗ (owesN c 11 -∗ slot true 2 1 c (part m true 1 2 c) -∗ zero (true, true, 1, 1) c -∗ sent false 2 1 c -∗ Q ⟨⟩)
      -∗ wpK c (k0_part18 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v25 (term m false 1 2 c) (term m true 1 2 c)) Q) := by
  rw [k0_part18_eq_skeleton]
  unfold k0_part18_skel
  simp only [semSignalWord, semWaitWord, Prog.lift, Prog.bind_op, Prog.bind_ret, Prog.pure_eq_ret]
  iintro #Hc rtL11 HO SR21 stR21 Hk
  iapply (recv_mid m K true false rfl 1 c 10 (by decide) _ rfl _ _ (slot_credit true 2 1)) $$ Hc rtL11 HO
  iintro SL21 DR01 zrL11 HO
  iapply (load_slot false 2 1 c _) $$ SR21
  iintro SR21
  iapply (load_slot false 2 1 c _) $$ SR21
  iintro SR21
  ihave AR21 := (slotAny_intro false 2 1 c _) $$ SR21
  iapply (store_slot false 2 1 c _) $$ AR21
  iintro SR21
  ihave SR21 := (slot_congr false 2 1 c (Y := (part m false 1 2 c)) (add_eq m false true rfl 1 1 2 rfl c _)) $$ [SR21]
  · iexact SR21
  iapply (load_slot true 2 1 c _) $$ SL21
  iintro SL21
  iapply (load_slot true 2 1 c _) $$ SL21
  iintro SL21
  ihave AL21 := (slotAny_intro true 2 1 c _) $$ SL21
  iapply (store_slot true 2 1 c _) $$ AL21
  iintro SL21
  ihave SL21 := (slot_congr true 2 1 c (Y := (part m true 1 2 c)) (add_eq m true false rfl 1 1 2 rfl c _)) $$ [SL21]
  · iexact SL21
  iapply (send_end m K false 2 0 1 c _ 10 11 rfl (by decide) (dev13_eq c) rfl rfl _ _ rfl rfl (part m false 1 2 c) rfl) $$ Hc stR21 SR21 DR01 HO
  iintro snR21 HO
  iapply (wpK_ret c ⟨⟩ rfl)
  iapply Hk $$ HO SL21 zrL11 snR21

theorem part19_run (c : Dev nD) (v14 : BitVec 32) {Q : (Σ' (_ : FVec F S1024x512 .f32), FVec F S1024x512 .f32) → sProp (MT nD τ sig Unit (Elt F) ℕ UU ℕ)} :
    ctx m K ⊢ iprop(sendTok true 2 1 c -∗ slot true 2 1 c (part m true 1 2 c) -∗ slotAny true 0 1 (fwd true c) -∗ owesN c 11 -∗ xfly m 3 3 c -∗ whalf m false c -∗ whalf m true c -∗ (owesN c 12 -∗ sent true 2 1 c -∗ xs m 3 c -∗ xhome m 3 c -∗ lzero 3 c -∗ whalf m false c -∗ whalf m true c -∗ Q ⟨(term m false 0 3 c), (term m true 0 3 c)⟩)
      -∗ wpK c (k0_part19 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 c v14) Q) := by
  rw [k0_part19_eq_skeleton]
  unfold k0_part19_skel
  simp only [semSignalWord, semWaitWord, Prog.lift, Prog.bind_op, Prog.bind_ret, Prog.pure_eq_ret]
  iintro #Hc stL21 SL21 DL01 HO xf3 w0 w1 Hk
  iapply (send_end m K true 2 0 1 c _ 11 12 rfl (by decide) (dev14_eq c) rfl rfl _ _ rfl rfl (part m true 1 2 c) rfl) $$ Hc stL21 SL21 DL01 HO
  iintro snL21 HO
  iapply (x_wait m K 3 3 c 12 _ (xsrc 3 c _ (off3 c) _) _ rfl) $$ Hc xf3 HO
  iintro xs3 xh3 z3 HO
  iapply (load_xs m 3 c) $$ xs3
  iintro xs3
  iapply (load_w m false 0 c) $$ w0
  iintro w0
  iapply (load_xs m 3 c) $$ xs3
  iintro xs3
  iapply (load_w m true 0 c) $$ w1
  iintro w1
  iapply (wpK_ret2 c (term_eq m 3 false 0 3 c (by revert c; decide) _) (term_eq m 3 true 0 3 c (by revert c; decide) _))
  iapply Hk $$ HO snL21 xs3 xh3 z3 w0 w1

theorem part20_run (c : Dev nD) (v14 v25 : BitVec 32) {Q : FVec F S1024x512 .f32 → sProp (MT nD τ sig Unit (Elt F) ℕ UU ℕ)} :
    ctx m K ⊢ iprop(recvTok false 2 0 c -∗ owesN c 12 -∗ recvTok true 2 0 c -∗ (owesN c 12 -∗ slot false 0 0 c (part m false 0 3 c) -∗ zero (true, false, 2, 0) c -∗ slot true 0 0 c (part m true 0 2 (fwd false c)) -∗ zero (true, true, 2, 0) c -∗ Q (part m true 0 3 c))
      -∗ wpK c (k0_part20 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 v14 v25 (term m false 0 3 c) (term m true 0 3 c)) Q) := by
  rw [k0_part20_eq_skeleton]
  unfold k0_part20_skel
  simp only [semSignalWord, semWaitWord, Prog.lift, Prog.bind_op, Prog.bind_ret, Prog.pure_eq_ret]
  iintro #Hc rtR20 HO rtL20 Hk
  iapply (recv_end m K false true rfl 2 0 2 rfl (by decide) rfl 0 c 12 (by decide) _ rfl _ _ (slot_credit false 0 0)) $$ Hc rtR20 HO
  iintro SR00 zrR20 HO
  iapply (recv_end m K true false rfl 2 0 2 rfl (by decide) rfl 0 c 12 (by decide) _ rfl _ _ (slot_credit true 0 0)) $$ Hc rtL20 HO
  iintro SL00 zrL20 HO
  iapply (load_slot false 0 0 c _) $$ SR00
  iintro SR00
  iapply (load_slot false 0 0 c _) $$ SR00
  iintro SR00
  ihave AR00 := (slotAny_intro false 0 0 c _) $$ SR00
  iapply (store_slot false 0 0 c _) $$ AR00
  iintro SR00
  ihave SR00 := (slot_congr false 0 0 c (Y := (part m false 0 3 c)) (add_eq m false true rfl 0 2 3 rfl c _)) $$ [SR00]
  · iexact SR00
  iapply (load_slot true 0 0 c _) $$ SL00
  iintro SL00
  iapply (wpK_ret c (part m true 0 3 c) (add_eq m true false rfl 0 2 3 rfl c _))
  iapply Hk $$ HO SR00 zrR20 SL00 zrL20

theorem part21_run (c : Dev nD) {Q : (Σ' (_ : FVec F S1024x512 .f32), FVec F S1024x512 .f32) → sProp (MT nD τ sig Unit (Elt F) ℕ UU ℕ)} :
    ctx m K ⊢ iprop(slot true 0 0 c (part m true 0 2 (fwd false c)) -∗ slot false 0 0 c (part m false 0 3 c) -∗ oany false 0 c -∗ lzero 6 c -∗ oany true 0 c -∗ lzero 8 c -∗ xs m 3 c -∗ whalf m false c -∗ whalf m true c -∗ (ofly m false 0 6 c -∗ ofly m true 0 8 c -∗ xs m 3 c -∗ whalf m false c -∗ whalf m true c -∗ Q ⟨(term m false 1 3 c), (term m true 1 3 c)⟩)
      -∗ wpK c (k0_part21 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 (part m true 0 3 c)) Q) := by
  rw [k0_part21_eq_skeleton]
  unfold k0_part21_skel
  simp only [semSignalWord, semWaitWord, Prog.lift, Prog.bind_op, Prog.bind_ret, Prog.pure_eq_ret]
  iintro #Hc SL00 SR00 oaR0 z6 oaL0 z8 xs3 w0 w1 Hk
  iapply (load_slot true 0 0 c _) $$ SL00
  iintro SL00
  ihave AL00 := (slotAny_intro true 0 0 c _) $$ SL00
  iapply (store_slot true 0 0 c _) $$ AL00
  iintro SL00
  iapply (o_start m false 0 6 c _ rfl) $$ SR00 oaR0 z6
  iintro ofR0
  iapply (o_start m true 0 8 c _ rfl) $$ SL00 oaL0 z8
  iintro ofL0
  iapply (load_xs m 3 c) $$ xs3
  iintro xs3
  iapply (load_w m false 1 c) $$ w0
  iintro w0
  iapply (load_xs m 3 c) $$ xs3
  iintro xs3
  iapply (load_w m true 1 c) $$ w1
  iintro w1
  iapply (wpK_ret2 c (term_eq m 3 false 1 3 c (by revert c; decide) _) (term_eq m 3 true 1 3 c (by revert c; decide) _))
  iapply Hk $$ ofR0 ofL0 xs3 w0 w1

theorem part22_run (c : Dev nD) (v14 v25 : BitVec 32) {Q : (Vec F S1x1x1024x512 .f32) → sProp (MT nD τ sig Unit (Elt F) ℕ UU ℕ)} :
    ctx m K ⊢ iprop(recvTok false 2 1 c -∗ owesN c 12 -∗ recvTok true 2 1 c -∗ (owesN c 12 -∗ slot false 0 1 c (part m false 1 3 c) -∗ zero (true, false, 2, 1) c -∗ slot true 0 1 c (part m true 1 2 (fwd false c)) -∗ zero (true, true, 2, 1) c -∗ Q (shapeCast S1x1x1024x512 (part m true 1 2 (fwd false c)) h512))
      -∗ wpK c (k0_part22 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 v14 v25 (term m false 1 3 c)) Q) := by
  rw [k0_part22_eq_skeleton]
  unfold k0_part22_skel
  simp only [semSignalWord, semWaitWord, Prog.lift, Prog.bind_op, Prog.bind_ret, Prog.pure_eq_ret]
  iintro #Hc rtR21 HO rtL21 Hk
  iapply (recv_end m K false true rfl 2 0 2 rfl (by decide) rfl 1 c 12 (by decide) _ rfl _ _ (slot_credit false 0 1)) $$ Hc rtR21 HO
  iintro SR01 zrR21 HO
  iapply (recv_end m K true false rfl 2 0 2 rfl (by decide) rfl 1 c 12 (by decide) _ rfl _ _ (slot_credit true 0 1)) $$ Hc rtL21 HO
  iintro SL01 zrL21 HO
  iapply (load_slot false 0 1 c _) $$ SR01
  iintro SR01
  iapply (load_slot false 0 1 c _) $$ SR01
  iintro SR01
  ihave AR01 := (slotAny_intro false 0 1 c _) $$ SR01
  iapply (store_slot false 0 1 c _) $$ AR01
  iintro SR01
  ihave SR01 := (slot_congr false 0 1 c (Y := (part m false 1 3 c)) (add_eq m false true rfl 1 2 3 rfl c _)) $$ [SR01]
  · iexact SR01
  iapply (load_slot true 0 1 c _) $$ SL01
  iintro SL01
  iapply (wpK_ret c (shapeCast S1x1x1024x512 (part m true 1 2 (fwd false c)) h512) rfl)
  iapply Hk $$ HO SR01 zrR21 SL01 zrL21

theorem part23_run (c : Dev nD) {Q : PUnit → sProp (MT nD τ sig Unit (Elt F) ℕ UU ℕ)} :
    ctx m K ⊢ iprop(slot true 0 1 c (part m true 1 2 (fwd false c)) -∗ slot false 0 1 c (part m false 1 3 c) -∗ oany false 1 c -∗ lzero 7 c -∗ oany true 1 c -∗ lzero 9 c -∗ sent false 1 0 c -∗ owesN c 12 -∗ (ofly m false 1 7 c -∗ ofly m true 1 9 c -∗ owesN c 12 -∗ slotAny false 1 0 c -∗ zero (false, false, 1, 0) c -∗ Q ⟨⟩)
      -∗ wpK c (k0_part23 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10 (term m true 1 3 c) (shapeCast S1x1x1024x512 (part m true 1 2 (fwd false c)) h512)) Q) := by
  rw [k0_part23_eq_skeleton]
  unfold k0_part23_skel
  simp only [semSignalWord, semWaitWord, Prog.lift, Prog.bind_op, Prog.bind_ret, Prog.pure_eq_ret]
  iintro #Hc SL01 SR01 oaR1 z7 oaL1 z9 snR10 HO Hk
  iapply (load_slot true 0 1 c _) $$ SL01
  iintro SL01
  ihave AL01 := (slotAny_intro true 0 1 c _) $$ SL01
  iapply (store_slot true 0 1 c _) $$ AL01
  iintro SL01
  ihave SL01 := (slot_congr true 0 1 c (Y := (part m true 1 3 c)) (add_eq m true false rfl 1 2 3 rfl c _)) $$ [SL01]
  · iexact SL01
  iapply (o_start m false 1 7 c _ rfl) $$ SR01 oaR1 z7
  iintro ofR1
  iapply (o_start m true 1 9 c _ rfl) $$ SL01 oaL1 z9
  iintro ofL1
  iapply (send_wait m K false 1 0 c 12 (by decide) _ rfl _ _ (slot_credit false 1 0)) $$ Hc snR10 HO
  iintro AR10 zsR10 HO
  iapply (wpK_ret c ⟨⟩ rfl)
  iapply Hk $$ ofR1 ofL1 HO AR10 zsR10

theorem part24_run (c : Dev nD) {Q : PUnit → sProp (MT nD τ sig Unit (Elt F) ℕ UU ℕ)} :
    ctx m K ⊢ iprop(sent true 1 0 c -∗ owesN c 12 -∗ sent false 1 1 c -∗ sent true 1 1 c -∗ (owesN c 12 -∗ slotAny true 1 0 c -∗ zero (false, true, 1, 0) c -∗ slotAny false 1 1 c -∗ zero (false, false, 1, 1) c -∗ slotAny true 1 1 c -∗ zero (false, true, 1, 1) c -∗ Q ⟨⟩)
      -∗ wpK c (k0_part24 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10) Q) := by
  rw [k0_part24_eq_skeleton]
  unfold k0_part24_skel
  simp only [semSignalWord, semWaitWord, Prog.lift, Prog.bind_op, Prog.bind_ret, Prog.pure_eq_ret]
  iintro #Hc snL10 HO snR11 snL11 Hk
  iapply (send_wait m K true 1 0 c 12 (by decide) _ rfl _ _ (slot_credit true 1 0)) $$ Hc snL10 HO
  iintro AL10 zsL10 HO
  iapply (send_wait m K false 1 1 c 12 (by decide) _ rfl _ _ (slot_credit false 1 1)) $$ Hc snR11 HO
  iintro AR11 zsR11 HO
  iapply (send_wait m K true 1 1 c 12 (by decide) _ rfl _ _ (slot_credit true 1 1)) $$ Hc snL11 HO
  iintro AL11 zsL11 HO
  iapply (wpK_ret c ⟨⟩ rfl)
  iapply Hk $$ HO AL10 zsL10 AR11 zsR11 AL11 zsL11

theorem part25_run (c : Dev nD) {Q : PUnit → sProp (MT nD τ sig Unit (Elt F) ℕ UU ℕ)} :
    ctx m K ⊢ iprop(sent false 2 0 c -∗ owesN c 12 -∗ sent true 2 0 c -∗ sent false 2 1 c -∗ (owesN c 12 -∗ slotAny false 2 0 c -∗ zero (false, false, 2, 0) c -∗ slotAny true 2 0 c -∗ zero (false, true, 2, 0) c -∗ slotAny false 2 1 c -∗ zero (false, false, 2, 1) c -∗ Q ⟨⟩)
      -∗ wpK c (k0_part25 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10) Q) := by
  rw [k0_part25_eq_skeleton]
  unfold k0_part25_skel
  simp only [semSignalWord, semWaitWord, Prog.lift, Prog.bind_op, Prog.bind_ret, Prog.pure_eq_ret]
  iintro #Hc snR20 HO snL20 snR21 Hk
  iapply (send_wait m K false 2 0 c 12 (by decide) _ rfl _ _ (slot_credit false 2 0)) $$ Hc snR20 HO
  iintro AR20 zsR20 HO
  iapply (send_wait m K true 2 0 c 12 (by decide) _ rfl _ _ (slot_credit true 2 0)) $$ Hc snL20 HO
  iintro AL20 zsL20 HO
  iapply (send_wait m K false 2 1 c 12 (by decide) _ rfl _ _ (slot_credit false 2 1)) $$ Hc snR21 HO
  iintro AR21 zsR21 HO
  iapply (wpK_ret c ⟨⟩ rfl)
  iapply Hk $$ HO AR20 zsR20 AL20 zsL20 AR21 zsR21

theorem part26_run (c : Dev nD) {Q : PUnit → sProp (MT nD τ sig Unit (Elt F) ℕ UU ℕ)} :
    ctx m K ⊢ iprop(sent true 2 1 c -∗ owesN c 12 -∗ ofly m false 0 6 c -∗ ofly m true 0 8 c -∗ ofly m false 1 7 c -∗ (owesN c 12 -∗ slotAny true 2 1 c -∗ zero (false, true, 2, 1) c -∗ odone m false 0 c -∗ slot false 0 0 c (part m false 0 3 c) -∗ lzero 6 c -∗ odone m true 0 c -∗ slot true 0 0 c (part m true 0 3 c) -∗ lzero 8 c -∗ odone m false 1 c -∗ slot false 0 1 c (part m false 1 3 c) -∗ lzero 7 c -∗ Q ⟨⟩)
      -∗ wpK c (k0_part26 (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10) Q) := by
  rw [k0_part26_eq_skeleton]
  unfold k0_part26_skel
  simp only [semSignalWord, semWaitWord, Prog.lift, Prog.bind_op, Prog.bind_ret, Prog.pure_eq_ret]
  iintro #Hc snL21 HO ofR0 ofL0 ofR1 Hk
  iapply (send_wait m K true 2 1 c 12 (by decide) _ rfl _ _ (slot_credit true 2 1)) $$ Hc snL21 HO
  iintro AL21 zsL21 HO
  iapply (o_wait m K false 0 6 c 12 _ rfl) $$ Hc ofR0 HO
  iintro odR0 SR00 z6 HO
  iapply (o_wait m K true 0 8 c 12 _ rfl) $$ Hc ofL0 HO
  iintro odL0 SL00 z8 HO
  iapply (o_wait m K false 1 7 c 12 _ rfl) $$ Hc ofR1 HO
  iintro odR1 SR01 z7 HO
  iapply (wpK_ret c ⟨⟩ rfl)
  iapply Hk $$ HO AL21 zsL21 odR0 SR00 z6 odL0 SL00 z8 odR1 SR01 z7

theorem part1_run (c : Dev nD) {Q : _ → sProp (MT nD τ sig Unit (Elt F) ℕ UU ℕ)} :
    iprop(∀ v2 v14 v25 v29 v30 v31 v32 v33, Q ⟨c, v2, v14, v25, v29, v30, v31, v32, v33⟩) ⊢ wpK c (k0_part1 (F := F) (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10) Q := by
  rw [k0_part1_eq_skeleton]
  unfold k0_part1_skel wpK
  simp only [Prog.lift, Prog.bind_op, Prog.bind_ret, Prog.pure_eq_ret, wp_deviceId]
  iintro H
  rw [wp_ret]
  imodintro
  iapply H

theorem wpK_bind {α β : Type} {Q : β → sProp (MT nD τ sig Unit (Elt F) ℕ UU ℕ)} (c : Dev nD) (p : Prog (TpuEff nD τ sig (Elt F) Λ₀ .tc) α) (k : α → Prog (TpuEff nD τ sig (Elt F) Λ₀ .tc) β) :
    wpK c p (fun a => wpK c (k a) Q) ⊢ wpK c (p >>= k) Q := by
  unfold wpK
  rw [wp_bind]

theorem lent_split (b : Bool) (e : Dev nD) : (lent b e : sProp 𝕄) ⊢ iprop(slotAny b 1 0 e ∗ slotAny b 1 1 e ∗ slotAny b 2 0 e ∗ slotAny b 2 1 e) := by
  unfold lent
  exact BIBase.Entails.refl

/-- The whole body: it takes the device's memory and tokens, and gives back the memory with every result tile in place. -/
theorem body_run (c : Dev nD) (W : Waits sig Unit) {Q : PUnit → sProp (MT nD τ sig Unit (Elt F) ℕ UU ℕ)} :
    ctx m K ⊢ iprop(xhome m 0 c -∗ xany 0 c -∗ xhome m 1 c -∗ xany 1 c -∗ xhome m 2 c -∗ xany 2 c -∗ xhome m 3 c -∗ xany 3 c -∗ whome m false c -∗ wany false c -∗ whome m true c -∗ wany true c -∗ lzero 0 c -∗ lzero 1 c -∗ lzero 2 c -∗ lzero 3 c -∗ lzero 4 c -∗ lzero 5 c -∗ lzero 6 c -∗ lzero 7 c -∗ lzero 8 c -∗ lzero 9 c -∗ slotAny false 0 0 c -∗ oany false 0 c -∗ slotAny false 0 1 c -∗ oany false 1 c -∗ sendTok false 0 0 c -∗ recvTok false 0 0 c -∗ sendTok false 0 1 c -∗ recvTok false 0 1 c -∗ sendTok false 1 0 c -∗ recvTok false 1 0 c -∗ sendTok false 1 1 c -∗ recvTok false 1 1 c -∗ sendTok false 2 0 c -∗ recvTok false 2 0 c -∗ sendTok false 2 1 c -∗ recvTok false 2 1 c -∗ slotAny true 0 0 c -∗ oany true 0 c -∗ slotAny true 0 1 c -∗ oany true 1 c -∗ sendTok true 0 0 c -∗ recvTok true 0 0 c -∗ sendTok true 0 1 c -∗ recvTok true 0 1 c -∗ sendTok true 1 0 c -∗ recvTok true 1 0 c -∗ sendTok true 1 1 c -∗ recvTok true 1 1 c -∗ sendTok true 2 0 c -∗ recvTok true 2 0 c -∗ sendTok true 2 1 c -∗ recvTok true 2 1 c -∗ dutyTok ER (barC (fwd true c)) 0 false -∗ dutyTok ER (barC (fwd false c)) 0 true -∗ lent false c -∗ lent true c -∗ owes (c : Thread nD τ) (O₀ c) W -∗ cred (tallyAt (barC c) () 2) -∗ atPos ER (barC c) 0 ∅ 0 -∗
      (barZero c -∗ whalf m false c -∗ whome m false c -∗ lzero 4 c -∗ xs m 0 c -∗ xhome m 0 c -∗ lzero 0 c -∗ whalf m true c -∗ whome m true c -∗ lzero 5 c -∗ xs m 1 c -∗ xhome m 1 c -∗ lzero 1 c -∗ xs m 2 c -∗ xhome m 2 c -∗ lzero 2 c -∗ zero (true, false, 0, 0) c -∗ zero (true, true, 0, 0) c -∗ zero (false, false, 0, 0) c -∗ zero (false, true, 0, 0) c -∗ zero (true, false, 0, 1) c -∗ zero (true, true, 0, 1) c -∗ zero (false, false, 0, 1) c -∗ zero (false, true, 0, 1) c -∗ zero (true, false, 1, 0) c -∗ zero (true, true, 1, 0) c -∗ zero (true, false, 1, 1) c -∗ zero (true, true, 1, 1) c -∗ xs m 3 c -∗ xhome m 3 c -∗ lzero 3 c -∗ zero (true, false, 2, 0) c -∗ zero (true, true, 2, 0) c -∗ zero (true, false, 2, 1) c -∗ zero (true, true, 2, 1) c -∗ slotAny false 1 0 c -∗ zero (false, false, 1, 0) c -∗ slotAny true 1 0 c -∗ zero (false, true, 1, 0) c -∗ slotAny false 1 1 c -∗ zero (false, false, 1, 1) c -∗ slotAny true 1 1 c -∗ zero (false, true, 1, 1) c -∗ slotAny false 2 0 c -∗ zero (false, false, 2, 0) c -∗ slotAny true 2 0 c -∗ zero (false, true, 2, 0) c -∗ slotAny false 2 1 c -∗ zero (false, false, 2, 1) c -∗ slotAny true 2 1 c -∗ zero (false, true, 2, 1) c -∗ odone m false 0 c -∗ slot false 0 0 c (part m false 0 3 c) -∗ lzero 6 c -∗ odone m true 0 c -∗ slot true 0 0 c (part m true 0 3 c) -∗ lzero 8 c -∗ odone m false 1 c -∗ slot false 0 1 c (part m false 1 3 c) -∗ lzero 7 c -∗ odone m true 1 c -∗ slot true 0 1 c (part m true 1 3 c) -∗ lzero 9 c -∗ owesN c 12 -∗ Q ⟨⟩)
      -∗ wpK c (cc0_body (F := F) (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10) Q) := by
  rw [cc0_body_eq_skeleton]
  unfold cc0_body_skel
  iintro #Hc xh0 xa0 xh1 xa1 xh2 xa2 xh3 xa3 wh0 wa0 wh1 wa1 z0 z1 z2 z3 z4 z5 z6 z7 z8 z9 AR00 oaR0 AR01 oaR1 stR00 rtR00 stR01 rtR01 stR10 rtR10 stR11 rtR11 stR20 rtR20 stR21 rtR21 AL00 oaL0 AL01 oaL1 stL00 rtL00 stL01 rtL01 stL10 rtL10 stL11 rtL11 stL20 rtL20 stL21 rtL21 dt1 dt2 l1 l2 HO Hcr Hat Hk
  iapply (wpK_bind c _ _)
  iapply (part1_run a0 a1 a2 a3 a4 a5 a6 c)
  iintro %v2 %v14 %v25 %v29 %v30 %v31 %v32 %v33
  iapply (wpK_bind c _ _)
  iapply (part2_run m K a0 a1 a2 a3 a4 a5 a6 c _ _ _ _ _ _ _ W) $$ Hc wh0 wa0 z4 xh0 xa0 z0 dt1 dt2 l1 l2 HO Hcr Hat
  iintro wh0 z4 xf0 HO k1 k2 bz w0
  ihave k1 := (lent_split false (fwd false c)) $$ k1
  icases k1 with ⟨DR10, DR11, DR20, DR21⟩
  ihave k2 := (lent_split true (fwd true c)) $$ k2
  icases k2 with ⟨DL10, DL11, DL20, DL21⟩
  iapply (wpK_bind c _ _)
  iapply (part3_run m K a0 a1 a2 a3 a4 a5 a6 c _) $$ Hc xf0 HO wh1 wa1 z5 xh1 xa1 z1 w0
  iintro HO xs0 xh0 z0 wf1 xf1 w0
  iapply (wpK_bind c _ _)
  iapply (part4_run m K a0 a1 a2 a3 a4 a5 a6 c _) $$ Hc AR00 stR00 DR10 HO xs0 w0 AR01
  iintro HO snR00 xs0 w0 SR01
  iapply (wpK_bind c _ _)
  iapply (part5_run m K a0 a1 a2 a3 a4 a5 a6 c _) $$ Hc stR01 SR01 DR11 HO wf1 xf1
  iintro HO snR01 w1 wh1 z5 xs1 xh1 z1
  iapply (wpK_bind c _ _)
  iapply (part6_run m K a0 a1 a2 a3 a4 a5 a6 c _) $$ Hc xh2 xa2 z2 xh3 xa3 z3 xs1 w1 AL00
  iintro xf2 xf3 xs1 w1 SL00
  iapply (wpK_bind c _ _)
  iapply (part7_run m K a0 a1 a2 a3 a4 a5 a6 c _) $$ Hc stL00 SL00 DL10 HO xs1 w1 AL01
  iintro HO snL00 xs1 w1 SL01
  iapply (wpK_bind c _ _)
  iapply (part8_run m K a0 a1 a2 a3 a4 a5 a6 c _) $$ Hc stL01 SL01 DL11 HO xf2 w0 w1 rtR00
  iintro HO snL01 xs2 xh2 z2 w0 w1 SR10 zrR00
  iapply (wpK_bind c _ _)
  iapply (part9_run m K a0 a1 a2 a3 a4 a5 a6 c _) $$ Hc rtL00 HO snR00
  iintro HO SL10 zrL00 AR00 zsR00
  iapply (wpK_bind c _ _)
  iapply (part10_run m K a0 a1 a2 a3 a4 a5 a6 c _) $$ Hc snL00 HO SR10 SL10 stR10 DR20
  iintro HO zsL00 SL10 snR10
  iapply (wpK_bind c _ _)
  iapply (part11_run m K a0 a1 a2 a3 a4 a5 a6 c _ _) $$ Hc stL10 SL10 DL20 AR00 HO xs2 w0 w1
  iintro HO snL10 xs2 w0 w1
  iapply (wpK_bind c _ _)
  iapply (part12_run m K a0 a1 a2 a3 a4 a5 a6 c _) $$ Hc rtR01 HO rtL01 snR01
  iintro HO SR11 zrR01 SL11 zrL01 AR01 zsR01
  iapply (wpK_bind c _ _)
  iapply (part13_run m K a0 a1 a2 a3 a4 a5 a6 c _) $$ Hc snL01 HO SR11 SL11
  iintro HO AL01 zsL01 SR11 SL11
  iapply (wpK_bind c _ _)
  iapply (part14_run m K a0 a1 a2 a3 a4 a5 a6 c _ _) $$ Hc stR11 SR11 DR21 AL01 HO stL11 SL11 DL21 AR01 xs1 w0 xs0 w1
  iintro HO snR11 snL11 xs1 w0 xs0 w1 %x %y
  iapply (wpK_bind c _ _)
  iapply (part15_run m K a0 a1 a2 a3 a4 a5 a6 c _ _ _) $$ Hc rtR10 HO rtL10
  iintro HO SR20 DL00 zrR10 SL20 DR00 zrL10
  iapply (wpK_bind c _ _)
  iapply (part16_run m K a0 a1 a2 a3 a4 a5 a6 c _ _) $$ Hc SL20 stR20 SR20 DR00 HO stL20 DL00 xs1
  iintro HO snR20 snL20 xs1
  iapply (wpK_bind c _ _)
  iapply (part17_run m K a0 a1 a2 a3 a4 a5 a6 c _ _) $$ Hc w0 xs0 w1 rtR11 HO
  iintro w0 xs0 w1 HO SR21 DL01 zrR11
  iapply (wpK_bind c _ _)
  iapply (part18_run m K a0 a1 a2 a3 a4 a5 a6 c _) $$ Hc rtL11 HO SR21 stR21
  iintro HO SL21 zrL11 snR21
  iapply (wpK_bind c _ _)
  iapply (part19_run m K a0 a1 a2 a3 a4 a5 a6 c _) $$ Hc stL21 SL21 DL01 HO xf3 w0 w1
  iintro HO snL21 xs3 xh3 z3 w0 w1
  iapply (wpK_bind c _ _)
  iapply (part20_run m K a0 a1 a2 a3 a4 a5 a6 c _ _) $$ Hc rtR20 HO rtL20
  iintro HO SR00 zrR20 SL00 zrL20
  iapply (wpK_bind c _ _)
  iapply (part21_run m K a0 a1 a2 a3 a4 a5 a6 c ) $$ Hc SL00 SR00 oaR0 z6 oaL0 z8 xs3 w0 w1
  iintro ofR0 ofL0 xs3 w0 w1
  iapply (wpK_bind c _ _)
  iapply (part22_run m K a0 a1 a2 a3 a4 a5 a6 c _ _) $$ Hc rtR21 HO rtL21
  iintro HO SR01 zrR21 SL01 zrL21
  iapply (wpK_bind c _ _)
  iapply (part23_run m K a0 a1 a2 a3 a4 a5 a6 c ) $$ Hc SL01 SR01 oaR1 z7 oaL1 z9 snR10 HO
  iintro ofR1 ofL1 HO AR10 zsR10
  iapply (wpK_bind c _ _)
  iapply (part24_run m K a0 a1 a2 a3 a4 a5 a6 c ) $$ Hc snL10 HO snR11 snL11
  iintro HO AL10 zsL10 AR11 zsR11 AL11 zsL11
  iapply (wpK_bind c _ _)
  iapply (part25_run m K a0 a1 a2 a3 a4 a5 a6 c ) $$ Hc snR20 HO snL20 snR21
  iintro HO AR20 zsR20 AL20 zsL20 AR21 zsR21
  iapply (wpK_bind c _ _)
  iapply (part26_run m K a0 a1 a2 a3 a4 a5 a6 c ) $$ Hc snL21 HO ofR0 ofL0 ofR1
  iintro HO AL21 zsL21 odR0 SR00 z6 odL0 SL00 z8 odR1 SR01 z7
  simp only [Prog.lift, Prog.bind_op, Prog.bind_ret, Prog.pure_eq_ret]
  iapply (o_wait m K true 1 9 c 12 _ rfl) $$ Hc ofL1 HO
  iintro odL1 SL01 z9 HO
  iapply (wpK_ret c _ rfl)
  iapply Hk $$ bz w0 wh0 z4 xs0 xh0 z0 w1 wh1 z5 xs1 xh1 z1 xs2 xh2 z2 zrR00 zrL00 zsR00 zsL00 zrR01 zrL01 zsR01 zsL01 zrR10 zrL10 zrR11 zrL11 xs3 xh3 z3 zrR20 zrL20 zrR21 zrL21 AR10 zsR10 AL10 zsL10 AR11 zsR11 AL11 zsL11 AR20 zsR20 AL20 zsL20 AR21 zsR21 AL21 zsL21 odR0 SR00 z6 odL0 SL00 z8 odR1 SR01 z7 odL1 SL01 z9 HO

end Parts

end Cert.RingProof
end
end
-- ==== Proof.Mem.lean ====
/-
# The buffers cut into the kernel's pieces and put together again

Each buffer of the kernel is cut into disjoint rectangles that cover it: slots of the scratch buffers, blocks of rows
of the left operand, halves of the right one, tiles of the result.
-/
module

public import proofs.«01_k».proof.Proof.Body

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The entailment of the proof mode is the library's. -/
theorem ent {P Q : sProp (MT nD τ sig Unit (Elt F) ℕ UU ℕ)} (h : P ⊢ Q) : Idealize.SL.BI.Entails P Q := h

/-! ## The rectangles -/

theorem slot_disj (x y : Fin 3 × Fin 2) (hxy : x ≠ y) : Disjoint (slotR x.1 x.2).set (slotR y.1 y.2).set := by
  by_cases h : x.1 = y.1
  · have h2 : x.2.val ≠ y.2.val := fun h2 => hxy (Prod.ext h (Fin.ext h2))
    exact Rect.unit_disjoint 1 (by show x.2.val + 1 ≤ y.2.val ∨ y.2.val + 1 ≤ x.2.val; omega)
  · have h2 : x.1.val ≠ y.1.val := fun h2 => h (Fin.ext h2)
    exact Rect.unit_disjoint 0 (by show x.1.val + 1 ≤ y.1.val ∨ y.1.val + 1 ≤ x.1.val; omega)

theorem slot_cover : (Finset.univ : Finset (Fin 3 × Fin 2)).biUnion (fun x => (slotR x.1 x.2).set) = Finset.univ := by
  refine Finset.eq_univ_iff_forall.mpr fun i => Finset.mem_biUnion.mpr ⟨(i 0, i 1), Finset.mem_univ _, Rect.mem_set_unit.mpr fun a => ?_⟩
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, by show (i 2).val < 0 + 1024; have h : (i 2).val < 1024 := (i 2).isLt; omega⟩
  | ⟨3, _⟩ => exact ⟨Nat.zero_le _, by show (i 3).val < 0 + 512; have h : (i 3).val < 512 := (i 3).isLt; omega⟩

theorem xslot_disj (x y : Fin 4) (hxy : x ≠ y) : Disjoint (xslotR x).set (xslotR y).set := by
  have h2 : x.val ≠ y.val := fun h2 => hxy (Fin.ext h2)
  exact Rect.unit_disjoint 0 (by show x.val + 1 ≤ y.val ∨ y.val + 1 ≤ x.val; omega)

theorem xslot_cover : (Finset.univ : Finset (Fin 4)).biUnion (fun x => (xslotR x).set) = Finset.univ := by
  refine Finset.eq_univ_iff_forall.mpr fun i => Finset.mem_biUnion.mpr ⟨i 0, Finset.mem_univ _, Rect.mem_set_unit.mpr fun a => ?_⟩
  match a with
  | ⟨0, _⟩ => exact ⟨Nat.le_refl _, Nat.lt_succ_self _⟩
  | ⟨1, _⟩ => exact ⟨Nat.zero_le _, by show (i 1).val < 0 + 1024; have h : (i 1).val < 1024 := (i 1).isLt; omega⟩
  | ⟨2, _⟩ => exact ⟨Nat.zero_le _, by show (i 2).val < 0 + 1024; have h : (i 2).val < 1024 := (i 2).isLt; omega⟩

theorem xblk_disj (x y : Dev nD) (hxy : x ≠ y) : Disjoint (xblkR x).set (xblkR y).set := by
  have h2 : x.val ≠ y.val := fun h2 => hxy (Fin.ext h2)
  exact Rect.unit_disjoint 0 (by show 1024 * x.val + 1024 ≤ 1024 * y.val ∨ 1024 * y.val + 1024 ≤ 1024 * x.val; omega)

theorem xblk_cover : (Finset.univ : Finset (Dev nD)).biUnion (fun x => (xblkR x).set) = Finset.univ := by
  refine Finset.eq_univ_iff_forall.mpr fun i => ?_
  have h0 : (i 0).val < 4096 := (i 0).isLt
  refine Finset.mem_biUnion.mpr ⟨⟨(i 0).val / 1024, by show _ < 4; omega⟩, Finset.mem_univ _, Rect.mem_set_unit.mpr fun a => ?_⟩
  match a with
  | ⟨0, _⟩ => show 1024 * ((i 0).val / 1024) ≤ (i 0).val ∧ (i 0).val < 1024 * ((i 0).val / 1024) + 1024; omega
  | ⟨1, _⟩ => exact ⟨Nat.zero_le _, by show (i 1).val < 0 + 1024; have h : (i 1).val < 1024 := (i 1).isLt; omega⟩

theorem half_disj (x y : Bool) (hxy : x ≠ y) : Disjoint (halfR x).set (halfR y).set :=
  Rect.unit_disjoint 1 (by
    show (if x then 1024 else 0) + 1024 ≤ (if y then 1024 else 0) ∨ (if y then 1024 else 0) + 1024 ≤ (if x then 1024 else 0)
    revert x y; decide)

theorem half_cover : (Finset.univ : Finset Bool).biUnion (fun x => (halfR x).set) = Finset.univ := by
  refine Finset.eq_univ_iff_forall.mpr fun i => ?_
  have h0 : (i 0).val < 1024 := (i 0).isLt
  have h1 : (i 1).val < 2048 := (i 1).isLt
  refine Finset.mem_biUnion.mpr ⟨decide (1024 ≤ (i 1).val), Finset.mem_univ _, Rect.mem_set_unit.mpr fun a => ?_⟩
  match a with
  | ⟨0, _⟩ => exact ⟨Nat.zero_le _, by show (i 0).val < 0 + 1024; omega⟩
  | ⟨1, _⟩ =>
    show (if decide (1024 ≤ (i 1).val) = true then 1024 else 0) ≤ (i 1).val ∧ (i 1).val < (if decide (1024 ≤ (i 1).val) = true then 1024 else 0) + 1024
    by_cases h : 1024 ≤ (i 1).val
    · rw [decide_eq_true h, if_pos rfl]; omega
    · rw [decide_eq_false h, if_neg Bool.false_ne_true]; omega

theorem tile_disj (x y : Bool × Fin 2) (hxy : x ≠ y) : Disjoint (tileR x.1 x.2).set (tileR y.1 y.2).set :=
  Rect.unit_disjoint 1 (by
    show ((if x.1 then 1024 else 0) + 512 * x.2.val) + 512 ≤ ((if y.1 then 1024 else 0) + 512 * y.2.val)
      ∨ ((if y.1 then 1024 else 0) + 512 * y.2.val) + 512 ≤ ((if x.1 then 1024 else 0) + 512 * x.2.val)
    revert x y; decide)

/-- The tile a column of the result is in. -/
def tileOf (j : ℕ) : Bool × Fin 2 := (decide (1024 ≤ j), ⟨j / 512 % 2, Nat.mod_lt _ (by decide)⟩)
theorem tileOf_le (j : ℕ) (hj : j < 2048) : (if (tileOf j).1 then 1024 else 0) + 512 * (tileOf j).2.val ≤ j
    ∧ j < ((if (tileOf j).1 then 1024 else 0) + 512 * (tileOf j).2.val) + 512 := by
  show (if decide (1024 ≤ j) = true then 1024 else 0) + 512 * (j / 512 % 2) ≤ j ∧ j < ((if decide (1024 ≤ j) = true then 1024 else 0) + 512 * (j / 512 % 2)) + 512
  by_cases h : 1024 ≤ j
  · rw [decide_eq_true h, if_pos rfl]; omega
  · rw [decide_eq_false h, if_neg Bool.false_ne_true]; omega

theorem tile_cover : (Finset.univ : Finset (Bool × Fin 2)).biUnion (fun x => (tileR x.1 x.2).set) = Finset.univ := by
  refine Finset.eq_univ_iff_forall.mpr fun i => ?_
  have h0 : (i 0).val < 1024 := (i 0).isLt
  have h1 : (i 1).val < 2048 := (i 1).isLt
  refine Finset.mem_biUnion.mpr ⟨tileOf (i 1).val, Finset.mem_univ _, Rect.mem_set_unit.mpr fun a => ?_⟩
  match a with
  | ⟨0, _⟩ => exact ⟨Nat.zero_le _, by show (i 0).val < 0 + 1024; omega⟩
  | ⟨1, _⟩ => exact tileOf_le (i 1).val h1

/-! ## The scratch buffers -/

/-- A buffer held whole, at some contents. -/
def anyBuf (c : Dev nD) (b : Ref sig .tc) : sProp 𝕄 := iprop(∃ f : Buf (Elt F) ((c : Thread nD τ).loc b), ((c : Thread nD τ).loc b) ↦{fullShare} f)

/-- The whole buffer of ring `b`, slot by slot. -/
def slots (b : Bool) (c : Dev nD) : sProp 𝕄 :=
  iprop(slotAny b 0 0 c ∗ slotAny b 0 1 c ∗ slotAny b 1 0 c ∗ slotAny b 1 1 c ∗ slotAny b 2 0 c ∗ slotAny b 2 1 c)
def xslots (c : Dev nD) : sProp 𝕄 := iprop(xany 0 c ∗ xany 1 c ∗ xany 2 c ∗ xany 3 c)
def whalves (c : Dev nD) : sProp 𝕄 := iprop(wany false c ∗ wany true c)

theorem slots_list (b : Bool) (c : Dev nD) :
    (bigSep Finset.univ fun x : Fin 3 × Fin 2 => (slotAny b x.1 x.2 c : sProp 𝕄)) = slots b c := by
  rw [bigSep_univ_eq_bigSepL [(0, 0), (0, 1), (1, 0), (1, 1), (2, 0), (2, 1)] (by decide) (by decide)]; rfl
theorem xslots_list (c : Dev nD) : (bigSep Finset.univ fun x : Fin 4 => (xany x c : sProp 𝕄)) = xslots c := by
  rw [bigSep_univ_eq_bigSepL [0, 1, 2, 3] (by decide) (by decide)]; rfl
theorem whalves_list (c : Dev nD) : (bigSep Finset.univ fun b : Bool => (wany b c : sProp 𝕄)) = whalves c := by
  rw [bigSep_univ_eq_bigSepL [false, true] (by decide) (by decide)]; rfl

theorem comm_cut (b : Bool) (c : Dev nD) (f : S3x2x1024x512.Idx → Elt F .f32) : owns (c : Thread nD τ) (commM b) fullShare f ⊢ (slots b c : sProp 𝕄) := by
  rw [← slots_list]
  refine BIBase.Entails.trans (owns_rects (c : Thread nD τ) (commM b) fullShare (fun x : Fin 3 × Fin 2 => slotR x.1 x.2) (fun _ _ => rfl) slot_disj slot_cover f)
    (bigSep_mono fun x _ => ent ?_)
  unfold slotAny slot
  iintro H
  iexists _
  iapply (owns_squeeze c _ squeezes_S1x1x1024x512_S1024x512 _) $$ H

theorem comm_join (b : Bool) (c : Dev nD) : (slots b c : sProp 𝕄) ⊢ iprop(∃ f, owns (c : Thread nD τ) (commM b) fullShare f) := by
  rw [← slots_list]
  refine BIBase.Entails.trans ?_ (BIBase.Entails.trans (ownsSat_of_rects (c : Thread nD τ) (commM b) fullShare (fun x : Fin 3 × Fin 2 => slotR x.1 x.2) (fun _ _ => rfl)
    slot_disj slot_cover (fun _ _ => True)) (ownsSat_any _ _ _))
  refine bigSep_mono fun x _ => ent ?_
  unfold slotAny slot
  iintro ⟨%X, H⟩
  iapply (ownsSat_intro (c : Thread nD τ) ((commM b).slice (slotR x.1 x.2) (fun _ => rfl)) fullShare (Φ := fun _ => True) trivial)
  iapply (owns_of_squeeze c _ squeezes_S1x1x1024x512_S1024x512 X) $$ H

theorem x_cut (c : Dev nD) (f : S4x1024x1024.Idx → Elt F .f32) : owns (c : Thread nD τ) (Memref.whole cc0_scratch0) fullShare f ⊢ (xslots c : sProp 𝕄) := by
  rw [← xslots_list]
  refine BIBase.Entails.trans (owns_rects (c : Thread nD τ) (Memref.whole cc0_scratch0) fullShare xslotR (fun _ _ => rfl) xslot_disj xslot_cover f)
    (bigSep_mono fun x _ => ent ?_)
  unfold xany
  iintro H
  iexists _
  iapply (owns_squeeze c _ squeezes_S1x1024x1024_S1024x1024 _) $$ H

theorem x_join (c : Dev nD) : (xslots c : sProp 𝕄) ⊢ iprop(∃ f, owns (c : Thread nD τ) (Memref.whole cc0_scratch0) fullShare f) := by
  rw [← xslots_list]
  refine BIBase.Entails.trans ?_ (BIBase.Entails.trans (ownsSat_of_rects (c : Thread nD τ) (Memref.whole cc0_scratch0) fullShare xslotR (fun _ _ => rfl)
    xslot_disj xslot_cover (fun _ _ => True)) (ownsSat_any _ _ _))
  refine bigSep_mono fun x _ => ent ?_
  unfold xany
  iintro ⟨%X, H⟩
  iapply (ownsSat_intro (c : Thread nD τ) ((Memref.whole cc0_scratch0).slice (xslotR x) (fun _ => rfl)) fullShare (Φ := fun _ => True) trivial)
  iapply (owns_of_squeeze c _ squeezes_S1x1024x1024_S1024x1024 X) $$ H

theorem w_cut (c : Dev nD) (f : S1024x2048.Idx → Elt F .f32) : owns (c : Thread nD τ) (Memref.whole cc0_scratch1) fullShare f ⊢ (whalves c : sProp 𝕄) := by
  rw [← whalves_list]
  refine BIBase.Entails.trans (owns_rects (c : Thread nD τ) (Memref.whole cc0_scratch1) fullShare halfR (fun _ _ => rfl) half_disj half_cover f)
    (bigSep_mono fun x _ => ent ?_)
  unfold wany
  iintro H
  iexists _
  iexact H

theorem w_join (c : Dev nD) : (whalves c : sProp 𝕄) ⊢ iprop(∃ f, owns (c : Thread nD τ) (Memref.whole cc0_scratch1) fullShare f) := by
  rw [← whalves_list]
  refine BIBase.Entails.trans ?_ (BIBase.Entails.trans (ownsSat_of_rects (c : Thread nD τ) (Memref.whole cc0_scratch1) fullShare halfR (fun _ _ => rfl)
    half_disj half_cover (fun _ _ => True)) (ownsSat_any _ _ _))
  refine bigSep_mono fun x _ => ent ?_
  unfold wany
  iintro ⟨%X, H⟩
  iapply (ownsSat_intro (c : Thread nD τ) ((Memref.whole cc0_scratch1).slice (halfR x) (fun _ => rfl)) fullShare (Φ := fun _ => True) trivial)
  iexact H

/-- The four scratch buffers, piece by piece. -/
def scratch (c : Dev nD) : sProp 𝕄 := iprop(xslots c ∗ whalves c ∗ slots false c ∗ slots true c)

theorem scratch_cut (c : Dev nD) : (Pipeline.scopedRest cfg0.spec c : sProp 𝕄) ⊢ scratch c := by
  rw [scopedRest0_eq]
  unfold scratch
  iintro ⟨⟨%f0, H0⟩, ⟨%f1, H1⟩, ⟨%f2, H2⟩, ⟨%f3, H3⟩⟩
  isplitl [H0]
  · iapply (x_cut c f0); rw [owns_whole]; iexact H0
  isplitl [H1]
  · iapply (w_cut c f1); rw [owns_whole]; iexact H1
  isplitl [H2]
  · iapply (comm_cut false c f2); rw [owns_whole]; iexact H2
  · iapply (comm_cut true c f3); rw [owns_whole]; iexact H3

theorem scratch_join (c : Dev nD) : (scratch c : sProp 𝕄) ⊢ Pipeline.scopedRest cfg0.spec c := by
  rw [scopedRest0_eq]
  unfold scratch
  iintro ⟨H0, H1, H2, H3⟩
  ihave H0 := (x_join c) $$ H0
  ihave H1 := (w_join c) $$ H1
  ihave H2 := (comm_join false c) $$ H2
  ihave H3 := (comm_join true c) $$ H3
  simp only [owns_whole]
  icases H0 with ⟨%f0, H0⟩
  icases H1 with ⟨%f1, H1⟩
  icases H2 with ⟨%f2, H2⟩
  icases H3 with ⟨%f3, H3⟩
  isplitl [H0]; · iexists f0; iexact H0
  isplitl [H1]; · iexists f1; iexact H1
  isplitl [H2]; · iexists f2; iexact H2
  iexists f3; iexact H3

/-! ## The operands and the result -/

def xhomes (c : Dev nD) : sProp 𝕄 := iprop(xhome m 0 c ∗ xhome m 1 c ∗ xhome m 2 c ∗ xhome m 3 c)
def whomes (c : Dev nD) : sProp 𝕄 := iprop(whome m false c ∗ whome m true c)
def outs (c : Dev nD) : sProp 𝕄 := iprop(oany false 0 c ∗ oany false 1 c ∗ oany true 0 c ∗ oany true 1 c)
def dones (c : Dev nD) : sProp 𝕄 := iprop(odone m false 0 c ∗ odone m false 1 c ∗ odone m true 0 c ∗ odone m true 1 c)

/-- Which block each slot holds, as a permutation. -/
def slotPerm (c : Dev nD) : Fin 4 ≃ Dev nD :=
  Equiv.ofBijective (fun i => sb i c) ((Fintype.bijective_iff_injective_and_card _).mpr ⟨by revert c; decide, rfl⟩)

theorem xhomes_list (c : Dev nD) :
    (bigSep Finset.univ fun j : Dev nD => (owns (c : Thread nD τ) (xblkM j) fullShare (xb m c j) : sProp 𝕄)) = xhomes m c := by
  rw [bigSep_univ_equiv (slotPerm c) (fun j : Dev nD => (owns (c : Thread nD τ) (xblkM j) fullShare (xb m c j) : sProp 𝕄)),
    bigSep_univ_eq_bigSepL [0, 1, 2, 3] (by decide) (by decide)]; rfl
theorem whomes_list (c : Dev nD) : (bigSep Finset.univ fun b : Bool => (whome m b c : sProp 𝕄)) = whomes m c := by
  rw [bigSep_univ_eq_bigSepL [false, true] (by decide) (by decide)]; rfl
theorem outs_list (c : Dev nD) : (bigSep Finset.univ fun x : Bool × Fin 2 => (oany x.1 x.2 c : sProp 𝕄)) = outs c := by
  rw [bigSep_univ_eq_bigSepL [(false, 0), (false, 1), (true, 0), (true, 1)] (by decide) (by decide)]; rfl
theorem dones_list (c : Dev nD) : (bigSep Finset.univ fun x : Bool × Fin 2 => (odone m x.1 x.2 c : sProp 𝕄)) = dones m c := by
  rw [bigSep_univ_eq_bigSepL [(false, 0), (false, 1), (true, 0), (true, 1)] (by decide) (by decide)]; rfl

theorem arg0_cut (c : Dev nD) : (((c : Thread nD τ).loc main_arg0) ↦{fullShare} m ((c : Thread nD τ).loc main_arg0)) ⊢ (xhomes m c : sProp 𝕄) := by
  rw [← xhomes_list, ← owns_whole]
  exact owns_rects (c : Thread nD τ) (Memref.whole main_arg0) fullShare xblkR (fun _ _ => rfl) xblk_disj xblk_cover _
theorem arg0_join (c : Dev nD) : (xhomes m c : sProp 𝕄) ⊢ (((c : Thread nD τ).loc main_arg0) ↦{fullShare} m ((c : Thread nD τ).loc main_arg0)) := by
  rw [← xhomes_list, ← owns_whole]
  exact owns_of_rects (c : Thread nD τ) (Memref.whole main_arg0) fullShare xblkR (fun _ _ => rfl) xblk_disj xblk_cover _
theorem arg1_cut (c : Dev nD) : (((c : Thread nD τ).loc main_arg1) ↦{fullShare} m ((c : Thread nD τ).loc main_arg1)) ⊢ (whomes m c : sProp 𝕄) := by
  rw [← whomes_list, ← owns_whole]
  exact owns_rects (c : Thread nD τ) (Memref.whole main_arg1) fullShare halfR (fun _ _ => rfl) half_disj half_cover _
theorem arg1_join (c : Dev nD) : (whomes m c : sProp 𝕄) ⊢ (((c : Thread nD τ).loc main_arg1) ↦{fullShare} m ((c : Thread nD τ).loc main_arg1)) := by
  rw [← whomes_list, ← owns_whole]
  exact owns_of_rects (c : Thread nD τ) (Memref.whole main_arg1) fullShare halfR (fun _ _ => rfl) half_disj half_cover _
theorem out_cut (c : Dev nD) (f : S1024x2048.Idx → Elt F .f32) : (((c : Thread nD τ).loc main_v1) ↦{fullShare} f) ⊢ (outs c : sProp 𝕄) := by
  rw [← outs_list, ← owns_whole]
  refine BIBase.Entails.trans (owns_rects (c : Thread nD τ) (Memref.whole main_v1) fullShare (fun x : Bool × Fin 2 => tileR x.1 x.2) (fun _ _ => rfl) tile_disj tile_cover f)
    (bigSep_mono fun x _ => ent ?_)
  unfold oany
  iintro H
  iexists _
  iexact H

/-- Every tile of the result holds its sum of four contributions. -/
def Done (c : Dev nD) (f : S1024x2048.Idx → Elt F .f32) : Prop := ∀ x : Bool × Fin 2, (fun j => f ((tileR x.1 x.2).emb j)) = part m x.1 x.2 3 c

theorem out_join (c : Dev nD) : (dones m c : sProp 𝕄)
    ⊢ iprop(∃ f : Buf (Elt F) ((c : Thread nD τ).loc main_v1), ⌜Done m c f⌝ ∗ (((c : Thread nD τ).loc main_v1) ↦{fullShare} f)) := by
  rw [← dones_list]
  refine BIBase.Entails.trans (BIBase.Entails.trans ?_ (ownsSat_of_rects (c : Thread nD τ) (Memref.whole main_v1) fullShare (fun x : Bool × Fin 2 => tileR x.1 x.2)
    (fun _ _ => rfl) tile_disj tile_cover (fun x X => X = part m x.1 x.2 3 c))) (BIBase.Entails.trans (ownsSat_elim _ _ _ _) ?_)
  · exact bigSep_mono fun x _ => ownsSat_intro (c : Thread nD τ) ((Memref.whole main_v1).slice (tileR x.1 x.2) (fun _ => rfl)) fullShare
      (Φ := fun X => X = part m x.1 x.2 3 c) rfl
  · simp only [owns_whole]
    exact BIBase.Entails.refl

end Cert.RingProof
end
end
-- ==== Proof.Ghost.lean ====
/-
# The ghost state of the rings at launch

Every cell starts at round zero with its duties' tokens. The semaphores at zero become the cells' invariants, which
every device may open; each token goes to the device that pays the duty; and what the devices owe each other at
launch is, for a device, the credit its barrier and its receive cells will be paid.
-/
module

public import proofs.«01_k».proof.Proof.Mem

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Separating conjunctions over the cells -/

omit [FloatOps F] in
theorem bigSep_opt {I : Type} [Fintype I] [DecidableEq I] (Φ : Option I → sProp (MT nD τ sig Unit (Elt F) ℕ UU ℕ)) :
    bigSep Finset.univ Φ = iprop(Φ none ∗ bigSep Finset.univ fun x : I => Φ (some x)) := by
  rw [bigSep_univ_at Φ none, show (Finset.univ.erase none : Finset (Option I)) = Finset.univ.map Function.Embedding.some from by
    ext x; cases x <;> simp, bigSep_map]
  rfl

omit [FloatOps F] in
theorem bigSep_cx (Φ : Cx → sProp (MT nD τ sig Unit (Elt F) ℕ UU ℕ)) :
    bigSep Finset.univ Φ = iprop((bigSep Finset.univ fun x : Tx => Φ (false, x)) ∗ bigSep Finset.univ fun x : Tx => Φ (true, x)) := by
  rw [bigSep_univ_prod, bigSep_univ_eq_bigSepL [false, true] (by decide) (by decide), bigSepL_cons_cons, bigSepL_singleton]
  rfl

omit [FloatOps F] in
theorem bigSep_swap {I J : Type} [Fintype I] [Fintype J] (Φ : I → J → sProp (MT nD τ sig Unit (Elt F) ℕ UU ℕ)) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I), bigSep_univ_prod]
  rfl

/-! ## The kernel's own semaphores -/

/-- The kernel's thirty-four semaphores. -/
def osem : Fin 34 → SemLoc sig := fun i => .dma i
theorem ownSemFacts : Pipeline.OwnSemFacts cfg0.spec osem := by decide

/-- The transfer cells and the ten semaphores of the copies within a device are all of them. -/
def semEquiv : Cx ⊕ Fin 10 ≃ Fin 34 :=
  Equiv.ofBijective (Sum.elim dsem lsem) ((Fintype.bijective_iff_injective_and_card _).2 ⟨by
    rintro (x | i) (y | j) h
    · exact congrArg Sum.inl (Option.some.inj (csem_injective (a₁ := some x) (a₂ := some y) (congrArg SemLoc.dma h)))
    · have h1 : (dsem x).val < 24 := by clear h; revert x; decide
      have h2 : 24 ≤ (lsem j).val := by clear h; revert j; decide
      have := congrArg Fin.val (show dsem x = lsem j from h); omega
    · have h1 : (dsem y).val < 24 := by clear h; revert y; decide
      have h2 : 24 ≤ (lsem i).val := by clear h; revert i; decide
      have := congrArg Fin.val (show lsem i = dsem y from h); omega
    · exact congrArg Sum.inr ((by decide : ∀ i j : Fin 10, lsem i = lsem j → i = j) i j h), rfl⟩)

/-- The semaphores of the copies within device `c`, at zero. -/
def lzeros (c : Dev nD) : sProp 𝕄 := bigSep Finset.univ fun i : Fin 10 => lzero i c

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun x : Cx => zero x c) ∗ lzeros c) := by
  unfold Pipeline.ownSems0 lzeros
  rw [bigSep_univ_equiv semEquiv, bigSep_univ_sum]; rfl
omit [FloatOps F] in
theorem unscopedSems0_eq (c : Dev nD) : (unscopedSems0 c : sProp 𝕄) = barZero c := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Kx => semVal (cell c k) 0) ∗ lzeros c) : sProp 𝕄) := by
  rw [ownSems0_eq, unscopedSems0_eq, bigSep_opt]
  iintro ⟨⟨HX, HL⟩, HB⟩
  isplitr [HL]
  · isplitl [HB]
    · unfold barZero; iexact HB
    iexact HX
  · iexact HL

/-! ## The launch element -/

def kcell (ck : Dev nD × Kx) : GSem nD τ sig := cell ck.1 ck.2
theorem kcell_injective : Function.Injective kcell := fun a b h => by
  have h1 : a.1 = b.1 := congrArg (fun g : GSem nD τ sig => g.1.1) h
  exact Prod.ext h1 (csem_injective (congrArg Prod.snd h))
def ringCells : Finset (GSem nD τ sig) := Finset.univ.map ⟨kcell, kcell_injective⟩

/-- The duties of a device's own cells: the barrier's second duty, and the first duty of every cell. -/
def tokOf (cj : Dev nD × Option Kx) : GSem nD τ sig × ℕ × Bool :=
  match cj.2 with | none => (barC cj.1, 0, true) | some k => (cell cj.1 k, 0, false)
theorem tokOf_injective : Function.Injective tokOf := by
  rintro ⟨c, j⟩ ⟨c', j'⟩ h
  cases j with
  | none => cases j' with
    | none =>
      have h1 : c = c' := congrArg (fun x : GSem nD τ sig × ℕ × Bool => x.1.1.1) h
      rw [h1]
    | some k' => exact absurd (congrArg (fun x : GSem nD τ sig × ℕ × Bool => x.2.2) h) (fun h' => by cases h')
  | some k => cases j' with
    | none => exact absurd (congrArg (fun x : GSem nD τ sig × ℕ × Bool => x.2.2) h) (fun h' => by cases h')
    | some k' =>
      have h1 : (c, k) = (c', k') := kcell_injective (congrArg (fun x : GSem nD τ sig × ℕ × Bool => x.1) h)
      rw [(Prod.mk.inj h1).1, (Prod.mk.inj h1).2]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

omit [FloatOps F] in
theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op ((b, 1) : UB × Counters))))

/-- The tokens of device `c`'s own cells. -/
def toks (c : Dev nD) : sProp 𝕄 :=
  iprop(dutyTok ER (barC c) 0 true ∗ bigSep Finset.univ fun k : Kx => dutyTok ER (cell c k) 0 false)
def places (c : Dev nD) : sProp 𝕄 := bigSep Finset.univ fun k : Kx => atPos ER (cell c k) 0 ∅ 0
def marks (c : Dev nD) : sProp 𝕄 := bigSep Finset.univ fun k : Kx => reached ER (cell c k) 0

/-- What the launch deals device `c`. -/
def G (c : Dev nD) : sProp 𝕄 :=
  iprop((bigSep Finset.univ fun k : Kx => roundState ER (Rd (F := F) m) (cell c k) 0) ∗ places c ∗ marks c ∗ toks c)

omit [FloatOps F] in
theorem bigSep_cells (Φ : GSem nD τ sig → sProp (MT nD τ sig Unit (Elt F) ℕ UU ℕ)) :
    bigSep ringCells Φ = bigSep Finset.univ fun c : Dev nD => bigSep Finset.univ fun k : Kx => Φ (cell c k) := by
  unfold ringCells; rw [bigSep_map, bigSep_univ_prod]; rfl

theorem fund_ring : BI.own (ER (initOf ringCells ringToks)) ⊢ (|==> bigSep Finset.univ (G (F := F) m) : sProp 𝕄) := by
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_opt]; rfl
  iintro HX
  imod (Rounds.fund ER (Rd (F := F) m) ringCells ringToks) $$ HX with ⟨Hst, Hr, Hat, Htok⟩
  imodintro
  ihave Hst' := (Entails.of_eq (bigSep_cells fun g => roundState ER (Rd (F := F) m) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq hT) $$ Htok
  unfold G places marks; simp only [bigSep_sep']
  isplitl [Hst']; · iexact Hst'
  isplitl [Hat']; · iexact Hat'
  isplitl [Hr']; · iexact Hr'
  iexact Htok'

/-! ## The tokens go to the devices that pay -/

/-- The tokens of the duties device `c` pays. -/
def payToks (c : Dev nD) : sProp 𝕄 :=
  iprop(dutyTok ER (barC (fwd true c)) 0 false ∗ dutyTok ER (barC (fwd false c)) 0 true
    ∗ (bigSep Finset.univ fun x : Tx => dutyTok ER (cell c (some (false, x))) 0 false)
    ∗ bigSep Finset.univ fun x : Tx => dutyTok ER (cell (fwd x.1 c) (some (true, x))) 0 false)

omit [FloatOps F] in
theorem recv_around : (bigSep Finset.univ fun c : Dev nD => bigSep Finset.univ fun x : Tx => (dutyTok ER (cell c (some (true, x))) 0 false : sProp 𝕄))
    = bigSep Finset.univ fun c : Dev nD => bigSep Finset.univ fun x : Tx => dutyTok ER (cell (fwd x.1 c) (some (true, x))) 0 false := by
  rw [bigSep_swap, bigSep_swap (I := Dev nD)]
  exact bigSep_congr fun x _ => bigSep_univ_equiv (ring x.1) fun c : Dev nD => (dutyTok ER (cell c (some (true, x))) 0 false : sProp 𝕄)

omit [FloatOps F] in
theorem toks_around : (bigSep Finset.univ fun c : Dev nD => (toks c : sProp 𝕄)) ⊢ bigSep Finset.univ fun c : Dev nD => payToks c := by
  unfold toks payToks
  simp only [bigSep_opt, bigSep_cx, bigSep_sep']
  rw [bigSep_univ_equiv (ring true) (fun c : Dev nD => (dutyTok ER (cell c none) 0 false : sProp 𝕄)),
    bigSep_univ_equiv (ring false) (fun c : Dev nD => (dutyTok ER (barC c) 0 true : sProp 𝕄)), recv_around]
  iintro ⟨H1, H2, H3, H4⟩
  isplitl [H2]; · iexact H2
  isplitl [H1]; · iexact H1
  isplitl [H3]; · iexact H3
  iexact H4

/-! ## The invariants -/

/-- What device `c` starts from: every cell's record, its positions, the tokens of the duties it pays. -/
def ghost (K : Dev nD × Kx → ℕ) (c : Dev nD) : sProp 𝕄 := iprop(records m K ∗ places c ∗ payToks c ∗ lzeros c)
def G' (c : Dev nD) : sProp 𝕄 := iprop(∃ K, ghost m K c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kx => iprop(∃ κ : ℕ, cellInv ER (Rd (F := F) m) κ (cell c k)))
          ∗ marks c ∗ toks c ∗ places c ∗ lzeros c) := by
  unfold G
  iintro ⟨Hos, Hus, Hst, Hat, Hr, Htok⟩
  ihave Hv := (sems0_eq (F := F) c) $$ [Hos Hus]
  · isplitl [Hos] <;> iassumption
  icases Hv with ⟨Hv, HL⟩
  imod (show iprop((bigSep Finset.univ fun k : Kx => semVal (cell c k) 0) ∗ bigSep Finset.univ fun k : Kx => roundState ER (Rd (F := F) m) (cell c k) 0)
      ⊢ (|={Set.univ}=> bigSep Finset.univ fun k : Kx => iprop(∃ κ : ℕ, cellInv ER (Rd (F := F) m) κ (cell c k)) : sProp 𝕄) from by
        rw [← bigSep_sep']
        exact (bigSep_mono fun k _ => (Rounds.body_intro ER (Rd (F := F) m) (cell c k)).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat]; · iexact Hat
  iexact HL

theorem regroup :
    (bigSep Finset.univ fun c : Dev nD => iprop((bigSep Finset.univ fun k : Kx => iprop(∃ κ : ℕ, cellInv ER (Rd (F := F) m) κ (cell c k)))
          ∗ marks c ∗ toks c ∗ places c ∗ lzeros c) : sProp 𝕄)
      ⊢ bigSep Finset.univ (G' m) := by
  unfold marks
  simp only [bigSep_sep']
  rw [← bigSep_univ_prod (fun ck : Dev nD × Kx => iprop(∃ κ : ℕ, cellInv ER (Rd (F := F) m) κ (cell ck.1 ck.2))),
    ← bigSep_univ_prod (fun ck : Dev nD × Kx => (reached ER (cell ck.1 ck.2) 0 : sProp 𝕄))]
  iintro ⟨HI, #HR, Htok, Hat, HL⟩
  ihave HK := (BI.bigSep_exists_pi Finset.univ (fun (ck : Dev nD × Kx) (κ : ℕ) => (cellInv ER (Rd (F := F) m) κ (cell ck.1 ck.2) : sProp 𝕄))) $$ HI
  icases HK with ⟨%K, #HI⟩
  ihave Htk := (toks_around (F := F)) $$ Htok
  have hall : iprop((bigSep Finset.univ fun c : Dev nD => records (F := F) m K) ∗ (bigSep Finset.univ fun c : Dev nD => (places c : sProp 𝕄))
      ∗ (bigSep Finset.univ fun c : Dev nD => (payToks c : sProp 𝕄)) ∗ bigSep Finset.univ fun c : Dev nD => (lzeros c : sProp 𝕄))
      ⊢ bigSep Finset.univ (G' (F := F) m) := by
    rw [← bigSep_sep', ← bigSep_sep', ← bigSep_sep']
    refine bigSep_mono fun c _ => ent ?_
    unfold G' ghost
    iintro H
    iexists K
    iexact H
  iapply hall
  isplitr
  · have hp : records (F := F) m K ⊢ bigSep Finset.univ fun c : Dev nD => records (F := F) m K := BI.bigSep_of_persistent _ _
    iapply hp
    unfold records
    isplitl
    · iexact HI
    · iexact HR
  isplitl [Hat]; · iexact Hat
  isplitl [Htk]; · iexact Htk
  iexact HL

/-- All devices' semaphores and launch states at once become what each device starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The launch credit -/

theorem rC_inj {x y : Tx} {c d : Dev nD} (h : rC x.1 x.2.1 x.2.2 c = rC y.1 y.2.1 y.2.2 d) : x = y ∧ c = d := by
  have := kcell_injective (a₁ := (c, some (true, x))) (a₂ := (d, some (true, y))) h
  exact ⟨(Prod.mk.inj (Option.some.inj (Prod.mk.inj this).2)).2, (Prod.mk.inj this).1⟩
theorem fwd_eq (b : Bool) (c d : Dev nD) : c = fwd b d ↔ d = fwd (!b) c := by revert b c d; decide

theorem dues_at (d c : Dev nD) (x : Tx) : ∀ l : List Tx, dues d l (rC x.1 x.2.1 x.2.2 c) () = l.count x * (if d = fwd (!x.1) c then Nc x.1 else 0)
  | [] => by rw [List.count_nil, Nat.zero_mul]; rfl
  | y :: l => by
    unfold dues due
    rw [Pi.add_apply, Finsupp.add_apply, tallyAt_apply, dues_at d c x l, List.count_cons]
    by_cases hy : y = x
    · subst hy
      rw [if_pos (show (y == y) = true from beq_self_eq_true y), Nat.add_mul, Nat.one_mul]
      congr 1
      by_cases hd : d = fwd (!y.1) c
      · rw [if_pos hd, if_pos ⟨by rw [(fwd_eq y.1 c d).mpr hd], rfl⟩]
      · rw [if_neg hd, if_neg fun h => hd ((fwd_eq y.1 c d).mp (rC_inj h.1).2)]
    · rw [if_neg (show ¬ (y == x) = true from fun h => hy (beq_iff_eq.mp h)), Nat.add_zero,
        if_neg (show ¬ (rC x.1 x.2.1 x.2.2 c = rC y.1 y.2.1 y.2.2 (fwd y.1 d) ∧ () = ()) from fun h => hy (rC_inj h.1).1.symm), Nat.add_zero]

theorem count_sends (x : Tx) : sends.count x = 1 := by revert x; decide

theorem rC_ne_bar (x : Tx) (c d : Dev nD) : rC x.1 x.2.1 x.2.2 c ≠ barC d := fun h => by
  have := kcell_injective (a₁ := (c, some (true, x))) (a₂ := (d, none)) h
  exact absurd (Prod.mk.inj this).2 (by simp)

theorem owed_recv (d c : Dev nD) (x : Tx) : O₀ d (rC x.1 x.2.1 x.2.2 c) () = if d = fwd (!x.1) c then Nc x.1 else 0 := by
  unfold O₀ O₁
  rw [Pi.add_apply, Finsupp.add_apply, Pi.add_apply, Finsupp.add_apply, tallyAt_ne_cell (rC_ne_bar x c _), tallyAt_ne_cell (rC_ne_bar x c _),
    Finsupp.zero_apply, Nat.add_zero, Nat.add_zero, dues_at, count_sends, Nat.one_mul]

theorem bar_iff (c d : Dev nD) (b : Bool) : (barC c = barC (fwd b d) ∧ () = ()) ↔ d = fwd (!b) c :=
  ⟨fun h => (fwd_eq b c d).mp (Prod.mk.inj (kcell_injective (a₁ := (c, none)) (a₂ := (fwd b d, none)) h.1)).1,
    fun h => ⟨by rw [(fwd_eq b c d).mpr h], rfl⟩⟩

theorem owed_bar (d c : Dev nD) : O₀ d (barC c) () = (if d = fwd true c then 1 else 0) + (if d = fwd false c then 1 else 0) := by
  have h0 : dues d sends (barC c) () = 0 := by
    by_contra h
    obtain ⟨x, _, hx⟩ := dues_pos (Nat.pos_of_ne_zero h)
    exact rC_ne_bar x _ c hx.symm
  unfold O₀ O₁
  rw [Pi.add_apply, Finsupp.add_apply, Pi.add_apply, Finsupp.add_apply, h0, Nat.zero_add, tallyAt_apply, tallyAt_apply]
  congr 1
  · exact if_congr (bar_iff c d false) rfl rfl
  · exact if_congr (bar_iff c d true) rfl rfl

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (fwd true c) fun _ => 1, Finset.sum_ite_eq' Finset.univ (fwd false c) fun _ => 1, if_pos (Finset.mem_univ _), if_pos (Finset.mem_univ _)]

theorem launch_recv (c : Dev nD) (x : Tx) :
    tallyOn (rC x.1 x.2.1 x.2.2 c) (launchCredit (Pipeline.owing O₀) 0 (rC x.1 x.2.1 x.2.2 c)) = (tallyAt (rC x.1 x.2.1 x.2.2 c) () (Nc x.1) : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (fwd (!x.1) c) fun _ => Nc x.1, if_pos (Finset.mem_univ _)]

/-- The credit of device `c`'s barrier and of its receive cells. -/
def credits (c : Dev nD) : sProp 𝕄 :=
  iprop(cred (tallyAt (barC c) () 2) ∗ bigSep Finset.univ fun x : Tx => cred (tallyAt (rC x.1 x.2.1 x.2.2 c) () (Nc x.1)))

theorem creds (c : Dev nD) : (Pipeline.launchCred O₀ c : sProp 𝕄) ⊢ credits c := by
  unfold Pipeline.launchCred
  refine (BI.bigSep_subset (Finset.subset_univ ((Finset.univ : Finset Kx).map ⟨csem, csem_injective⟩))).trans ?_
  rw [bigSep_map, bigSep_opt, bigSep_cx]
  unfold credits
  refine ent ?_
  iintro ⟨HB, -, HR⟩
  isplitl [HB]
  · rw [← launch_bar]; iexact HB
  · rw [bigSep_congr (s := Finset.univ) fun x _ => congrArg cred (launch_recv c x).symm]
    iexact HR

end Cert.RingProof
end
end
-- ==== Proof.Launch.lean ====
/-
# The launch and the run

Each device's body, put together: from its ghost state, its scratch buffers and its arrays to the finished result. Then
the run of the whole program: every execution ends, with the operands unchanged, the result in place and every
semaphore counter at zero.
-/
module

public import proofs.«01_k».proof.Proof.Ghost
public import proofs.«01_k».proof.Proof.Gen.KernelIdeal.Points
public import Idealize.ShloMosaic.Lib.Pipeline.CollectiveSegs

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Lists of what a device holds -/

/-- A device's protocol state, transfer by transfer. -/
def talk (c : Dev nD) : sProp 𝕄 :=
  iprop(atPos ER (barC c) 0 ∅ 0 ∗ dutyTok ER (barC (fwd true c)) 0 false ∗ dutyTok ER (barC (fwd false c)) 0 true ∗ cred (tallyAt (barC c) () 2)
    ∗ (bigSep Finset.univ fun x : Tx => sendTok x.1 x.2.1 x.2.2 c) ∗ bigSep Finset.univ fun x : Tx => recvTok x.1 x.2.1 x.2.2 c)

theorem talk_intro (c : Dev nD) : (iprop(places c ∗ payToks c ∗ credits c) : sProp 𝕄) ⊢ talk c := by
  unfold places payToks credits talk sendTok recvTok
  rw [bigSep_opt, bigSep_cx]
  simp only [bigSep_sep']
  iintro ⟨⟨HB, HS, HR⟩, ⟨T1, T2, TS, TR⟩, C1, CR⟩
  isplitl [HB]; · iexact HB
  isplitl [T1]; · iexact T1
  isplitl [T2]; · iexact T2
  isplitl [C1]; · iexact C1
  isplitl [TS TR HS]
  · isplitl [TS]; · iexact TS
    isplitl [TR]; · iexact TR
    iexact HS
  isplitl [CR]; · iexact CR
  iexact HR

theorem all_tx (Φ : Tx → sProp (MT nD τ sig Unit (Elt F) ℕ UU ℕ)) : bigSep Finset.univ Φ = iprop(Φ (false, 0, 0) ∗ Φ (false, 0, 1) ∗ Φ (false, 1, 0) ∗ Φ (false, 1, 1) ∗ Φ (false, 2, 0) ∗ Φ (false, 2, 1) ∗ Φ (true, 0, 0) ∗ Φ (true, 0, 1) ∗ Φ (true, 1, 0) ∗ Φ (true, 1, 1) ∗ Φ (true, 2, 0) ∗ Φ (true, 2, 1)) := by
  rw [bigSep_univ_eq_bigSepL [(false, 0, 0), (false, 0, 1), (false, 1, 0), (false, 1, 1), (false, 2, 0), (false, 2, 1), (true, 0, 0), (true, 0, 1), (true, 1, 0), (true, 1, 1), (true, 2, 0), (true, 2, 1)] (by decide) (by decide)]; rfl
theorem all_cx (Φ : Cx → sProp (MT nD τ sig Unit (Elt F) ℕ UU ℕ)) : bigSep Finset.univ Φ = iprop(Φ (false, false, 0, 0) ∗ Φ (false, false, 0, 1) ∗ Φ (false, false, 1, 0) ∗ Φ (false, false, 1, 1) ∗ Φ (false, false, 2, 0) ∗ Φ (false, false, 2, 1) ∗ Φ (false, true, 0, 0) ∗ Φ (false, true, 0, 1) ∗ Φ (false, true, 1, 0) ∗ Φ (false, true, 1, 1) ∗ Φ (false, true, 2, 0) ∗ Φ (false, true, 2, 1) ∗ Φ (true, false, 0, 0) ∗ Φ (true, false, 0, 1) ∗ Φ (true, false, 1, 0) ∗ Φ (true, false, 1, 1) ∗ Φ (true, false, 2, 0) ∗ Φ (true, false, 2, 1) ∗ Φ (true, true, 0, 0) ∗ Φ (true, true, 0, 1) ∗ Φ (true, true, 1, 0) ∗ Φ (true, true, 1, 1) ∗ Φ (true, true, 2, 0) ∗ Φ (true, true, 2, 1)) := by
  rw [bigSep_univ_eq_bigSepL [(false, false, 0, 0), (false, false, 0, 1), (false, false, 1, 0), (false, false, 1, 1), (false, false, 2, 0), (false, false, 2, 1), (false, true, 0, 0), (false, true, 0, 1), (false, true, 1, 0), (false, true, 1, 1), (false, true, 2, 0), (false, true, 2, 1), (true, false, 0, 0), (true, false, 0, 1), (true, false, 1, 0), (true, false, 1, 1), (true, false, 2, 0), (true, false, 2, 1), (true, true, 0, 0), (true, true, 0, 1), (true, true, 1, 0), (true, true, 1, 1), (true, true, 2, 0), (true, true, 2, 1)] (by decide) (by decide)]; rfl
theorem all_l (c : Dev nD) : (lzeros c : sProp 𝕄) = iprop(lzero 0 c ∗ lzero 1 c ∗ lzero 2 c ∗ lzero 3 c ∗ lzero 4 c ∗ lzero 5 c ∗ lzero 6 c ∗ lzero 7 c ∗ lzero 8 c ∗ lzero 9 c) := by
  unfold lzeros; rw [bigSep_univ_eq_bigSepL [0, 1, 2, 3, 4, 5, 6, 7, 8, 9] (by decide) (by decide)]; rfl

/-! ## The body, from the launch's state to the finished result -/

/-- What a device holds of its arrays before the kernel. -/
def arrays (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1) ↦{fullShare} m ((c : Thread nD τ).loc main_v1)))
/-- What it holds of them after: the operands as they were, the result in place. -/
def results (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ ∃ f : Buf (Elt F) ((c : Thread nD τ).loc main_v1), ⌜Done m c f⌝ ∗ (((c : Thread nD τ).loc main_v1) ↦{fullShare} f))

def start (c : Dev nD) : sProp 𝕄 := iprop(G' m c ∗ credits c ∗ levAts L lv ∗ arrays m c)
def Φ₀ (c : Dev nD) : sProp 𝕄 := iprop(start m c ∗ scratch c)
def Φ₁ (c : Dev nD) : sProp 𝕄 := iprop(results m c ∗ barZero c ∗ (bigSep Finset.univ fun x : Cx => zero x c) ∗ lzeros c ∗ scratch c)

theorem xs_any (i : Fin 4) (c : Dev nD) : xs m i c ⊢ (xany i c : sProp 𝕄) := by
  unfold xs xslot xany; iintro H; iexists _; iexact H
theorem whalf_any (b : Bool) (c : Dev nD) : whalf m b c ⊢ (wany b c : sProp 𝕄) := by
  unfold whalf wany; iintro H; iexists _; iexact H

/-- What the body leaves: the arrays piece by piece, every counter at zero, the scratch buffers. -/
def left (c : Dev nD) : sProp 𝕄 :=
  iprop((xhomes m c ∗ whomes m c ∗ dones m c) ∗ barZero c ∗ (bigSep Finset.univ fun x : Cx => zero x c) ∗ lzeros c ∗ scratch c)

theorem left_exit (c : Dev nD) : left m c ⊢ Φ₁ m c := by
  unfold left Φ₁ results
  iintro ⟨⟨X, W, D⟩, B, Z, L, S⟩
  isplitl [X W D]
  · isplitl [X]; · (iapply (arg0_join m c); iexact X)
    isplitl [W]; · (iapply (arg1_join m c); iexact W)
    iapply (out_join m c); iexact D
  isplitl [B]; · iexact B
  isplitl [Z]; · iexact Z
  isplitl [L]; · iexact L
  iexact S

section Whole
variable (a0 : (Memref.whole main_arg0).IsWhole) (a1 : (Memref.whole main_arg1).IsWhole) (a2 : (Memref.whole main_v1).IsWhole) (a3 : (Memref.whole cc0_scratch0).IsWhole)
  (a4 : (Memref.whole cc0_scratch1).IsWhole) (a5 : (Memref.whole cc0_scratch2).IsWhole) (a6 : (Memref.whole cc0_scratch3).IsWhole)

theorem body_pieces (K : Dev nD × Kx → ℕ) (c : Dev nD) (W : Waits sig Unit) :
    ctx m K ⊢ iprop((xhomes m c ∗ whomes m c ∗ outs c) -∗ scratch c -∗ talk c -∗ lzeros c -∗ owes (c : Thread nD τ) (O₀ c) W
      -∗ wpK c (cc0_body (F := F) (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10)
        (fun _ => iprop(left m c ∗ owesN c 12))) := by
  unfold xhomes whomes outs scratch xslots whalves talk
  rw [all_tx, all_tx, all_l]
  iintro #Hc ⟨⟨xh0, xh1, xh2, xh3⟩, ⟨wh0, wh1⟩, ⟨oaR0, oaR1, oaL0, oaL1⟩⟩ ⟨⟨xa0, xa1, xa2, xa3⟩, ⟨wa0, wa1⟩, HS0, HS1⟩ ⟨HB, T1, T2, C1, ⟨stR00, stR01, stR10, stR11, stR20, stR21, stL00, stL01, stL10, stL11, stL20, stL21⟩, ⟨rtR00, rtR01, rtR10, rtR11, rtR20, rtR21, rtL00, rtL01, rtL10, rtL11, rtL20, rtL21⟩⟩ ⟨z0, z1, z2, z3, z4, z5, z6, z7, z8, z9⟩ HO
  ihave HS0 := (show (slots false c : sProp 𝕄) ⊢ slots false c from BIBase.Entails.refl) $$ HS0
  unfold slots
  icases HS0 with ⟨AR00, AR01, AR10, AR11, AR20, AR21⟩
  icases HS1 with ⟨AL00, AL01, AL10, AL11, AL20, AL21⟩
  iapply (body_run m K a0 a1 a2 a3 a4 a5 a6 c W) $$ Hc xh0 xa0 xh1 xa1 xh2 xa2 xh3 xa3 wh0 wa0 wh1 wa1 z0 z1 z2 z3 z4 z5 z6 z7 z8 z9 AR00 oaR0 AR01 oaR1 stR00 rtR00 stR01 rtR01 stR10 rtR10 stR11 rtR11 stR20 rtR20 stR21 rtR21 AL00 oaL0 AL01 oaL1 stL00 rtL00 stL01 rtL01 stL10 rtL10 stL11 rtL11 stL20 rtL20 stL21 rtL21 T1 T2 [AR10 AR11 AR20 AR21] [AL10 AL11 AL20 AL21] HO C1 HB
  · unfold lent
    isplitl [AR10]; · iexact AR10
    isplitl [AR11]; · iexact AR11
    isplitl [AR20]; · iexact AR20
    iexact AR21
  · unfold lent
    isplitl [AL10]; · iexact AL10
    isplitl [AL11]; · iexact AL11
    isplitl [AL20]; · iexact AL20
    iexact AL21
  iintro bz w0 wh0 z4 xs0 xh0 z0 w1 wh1 z5 xs1 xh1 z1 xs2 xh2 z2 zrR00 zrL00 zsR00 zsL00 zrR01 zrL01 zsR01 zsL01 zrR10 zrL10 zrR11 zrL11 xs3 xh3 z3 zrR20 zrL20 zrR21 zrL21 AR10 zsR10 AL10 zsL10 AR11 zsR11 AL11 zsL11 AR20 zsR20 AL20 zsL20 AR21 zsR21 AL21 zsL21 odR0 SR00 z6 odL0 SL00 z8 odR1 SR01 z7 odL1 SL01 z9 HO
  unfold left xhomes whomes dones scratch xslots whalves slots
  rw [all_cx, all_l]
  isplitl [xh0 xh1 xh2 xh3 wh0 wh1 odR0 odR1 odL0 odL1 bz zsR00 zsR01 zsR10 zsR11 zsR20 zsR21 zsL00 zsL01 zsL10 zsL11 zsL20 zsL21 zrR00 zrR01 zrR10 zrR11 zrR20 zrR21 zrL00 zrL01 zrL10 zrL11 zrL20 zrL21 z0 z1 z2 z3 z4 z5 z6 z7 z8 z9 xs0 xs1 xs2 xs3 w0 w1 SR00 SR01 AR10 AR11 AR20 AR21 SL00 SL01 AL10 AL11 AL20 AL21]
  · isplitl [xh0 xh1 xh2 xh3 wh0 wh1 odR0 odR1 odL0 odL1]
    · isplitl [xh0 xh1 xh2 xh3]
      · isplitl [xh0]; · iexact xh0
        isplitl [xh1]; · iexact xh1
        isplitl [xh2]; · iexact xh2
        iexact xh3
      isplitl [wh0 wh1]
      · isplitl [wh0]; · iexact wh0
        iexact wh1
      isplitl [odR0]; · iexact odR0
      isplitl [odR1]; · iexact odR1
      isplitl [odL0]; · iexact odL0
      iexact odL1
    isplitl [bz]; · iexact bz
    isplitl [zsR00 zsR01 zsR10 zsR11 zsR20 zsR21 zsL00 zsL01 zsL10 zsL11 zsL20 zsL21 zrR00 zrR01 zrR10 zrR11 zrR20 zrR21 zrL00 zrL01 zrL10 zrL11 zrL20 zrL21]
    · isplitl [zsR00]; · iexact zsR00
      isplitl [zsR01]; · iexact zsR01
      isplitl [zsR10]; · iexact zsR10
      isplitl [zsR11]; · iexact zsR11
      isplitl [zsR20]; · iexact zsR20
      isplitl [zsR21]; · iexact zsR21
      isplitl [zsL00]; · iexact zsL00
      isplitl [zsL01]; · iexact zsL01
      isplitl [zsL10]; · iexact zsL10
      isplitl [zsL11]; · iexact zsL11
      isplitl [zsL20]; · iexact zsL20
      isplitl [zsL21]; · iexact zsL21
      isplitl [zrR00]; · iexact zrR00
      isplitl [zrR01]; · iexact zrR01
      isplitl [zrR10]; · iexact zrR10
      isplitl [zrR11]; · iexact zrR11
      isplitl [zrR20]; · iexact zrR20
      isplitl [zrR21]; · iexact zrR21
      isplitl [zrL00]; · iexact zrL00
      isplitl [zrL01]; · iexact zrL01
      isplitl [zrL10]; · iexact zrL10
      isplitl [zrL11]; · iexact zrL11
      isplitl [zrL20]; · iexact zrL20
      iexact zrL21
    isplitl [z0 z1 z2 z3 z4 z5 z6 z7 z8 z9]
    · isplitl [z0]; · iexact z0
      isplitl [z1]; · iexact z1
      isplitl [z2]; · iexact z2
      isplitl [z3]; · iexact z3
      isplitl [z4]; · iexact z4
      isplitl [z5]; · iexact z5
      isplitl [z6]; · iexact z6
      isplitl [z7]; · iexact z7
      isplitl [z8]; · iexact z8
      iexact z9
    isplitl [xs0 xs1 xs2 xs3]
    · isplitl [xs0]; · (iapply (xs_any m 0 c); iexact xs0)
      isplitl [xs1]; · (iapply (xs_any m 1 c); iexact xs1)
      isplitl [xs2]; · (iapply (xs_any m 2 c); iexact xs2)
      iapply (xs_any m 3 c); iexact xs3
    isplitl [w0 w1]
    · isplitl [w0]; · (iapply (whalf_any m false c); iexact w0)
      iapply (whalf_any m true c); iexact w1
    isplitl [SR00 SR01 AR10 AR11 AR20 AR21]
    · isplitl [SR00]; · (iapply (slotAny_intro false 0 0 c _); iexact SR00)
      isplitl [SR01]; · (iapply (slotAny_intro false 0 1 c _); iexact SR01)
      isplitl [AR10]; · iexact AR10
      isplitl [AR11]; · iexact AR11
      isplitl [AR20]; · iexact AR20
      iexact AR21
    isplitl [SL00]; · (iapply (slotAny_intro true 0 0 c _); iexact SL00)
    isplitl [SL01]; · (iapply (slotAny_intro true 0 1 c _); iexact SL01)
    isplitl [AL10]; · iexact AL10
    isplitl [AL11]; · iexact AL11
    isplitl [AL20]; · iexact AL20
    iexact AL21
  iexact HO

/-- The body from the launch's state to its end. -/
theorem body_whole (c : Dev nD) (W : Waits sig Unit) :
    iprop(Φ₀ m c ∗ owes (c : Thread nD τ) (O₀ c) W)
      ⊢ wpK c (cc0_body (F := F) (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10) (fun _ => iprop(Φ₁ m c ∗ owesN c 12)) := by
  unfold Φ₀ start G' ghost arrays
  iintro ⟨⟨⟨⟨%K, #HR, HP, HT, HL⟩, HC, #Hlev, HA0, HA1, HO⟩, HS⟩, Howe⟩
  ihave X := (arg0_cut m c) $$ HA0
  ihave W := (arg1_cut m c) $$ HA1
  ihave O := (out_cut c _) $$ HO
  ihave T := (talk_intro (F := F) c) $$ [HP HT HC]
  · isplitl [HP]; · iexact HP
    isplitl [HT]; · iexact HT
    iexact HC
  have hw := wp_mono frame (wpE (defs₀ (F := F)) 𝒱₀ (c : Thread nD τ) none) Set.univ (p := (cc0_body (F := F) (Memref.whole main_arg0) a0 (Memref.whole main_arg1) a1 (Memref.whole main_v1) a2 (Memref.whole cc0_scratch0) a3 (Memref.whole cc0_scratch1) a4 (Memref.whole cc0_scratch2) a5 (Memref.whole cc0_scratch3) a6 cc0_scratch4 cc0_scratch5 cc0_scratch6 cc0_scratch7 cc0_scratch8 cc0_scratch9 cc0_scratch10)) (Q := fun _ => iprop(left m c ∗ owesN c 12))
    (Q' := fun _ => iprop(Φ₁ m c ∗ owesN c 12)) fun _ => by
      iintro ⟨HL, HO⟩
      isplitl [HL]; · (iapply (left_exit m c); iexact HL)
      iexact HO
  iapply hw
  iapply (body_pieces m a0 a1 a2 a3 a4 a5 a6 K c W) $$ [] [X W O] HS T HL Howe
  · unfold ctx
    isplitl
    · iexact HR
    · iexact Hlev
  · isplitl [X]; · iexact X
    isplitl [W]; · iexact W
    iexact O

end Whole

/-! ## The pipeline's proof data -/

variable (ρ : Dev nD → PrngReg)

/-- The initial state: any memory, every counter at zero. -/
def s₀ : MemSt nD τ sig (Elt F) := ⟨m, fun _ => 0, ρ⟩

/-- The call has no windows and one point: the ring's state before it, the finished result after. -/
def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem phi_before (c : Dev nD) : (dats m 0 c).Φ t0_0.castSucc = Φ₀ m c := rfl
theorem phi_after (c : Dev nD) : (dats m 0 c).Φ t0_0.succ = Φ₁ m c := rfl

set_option maxRecDepth 8000 in
theorem body_obligation (c : Dev nD) : BodyObligation (dats (F := F) m 0 c) (defs₀ (F := F)) 𝒱₀ () Set.univ := fun t => by
  rw [fin_N0 t]
  have h := body_whole m (Memref.isWhole_whole _) (Memref.isWhole_whole _) (Memref.isWhole_whole _) (Memref.isWhole_whole _) (Memref.isWhole_whole _)
    (Memref.isWhole_whole _) (Memref.isWhole_whole _) c
  have hw := wp_mono frame (wpE (defs₀ (F := F)) 𝒱₀ (c : Thread nD τ) none) Set.univ (p := bodyAt0 (F := F) t0_0) (Q := fun _ => iprop(Φ₁ m c ∗ owesN c 12))
    (Q' := fun _ => iprop((dats m 0 c).Φ t0_0.succ ∗ (dats m 0 c).owesAt () t0_0.succ ∗ bigSep Finset.univ fun w : Fin cfg0.W =>
      (w.elim0 : sProp (MT nD τ sig Unit (Elt F) ℕ UU ℕ)))) fun _ => by
        rw [phi_after]
        unfold owesN Dat.owesAt Pipeline.owesWithin
        iintro ⟨H1, ⟨%W, HO⟩⟩
        isplitl [H1]; · iexact H1
        isplitl [HO]
        · iexists W
          isplitr
          · ipureintro; exact fun _ _ => Or.inl trivial
          · iexact HO
        · iempintro
  show iprop((dats m 0 c).Φ t0_0.castSucc ∗ (dats m 0 c).owesAt () t0_0.castSucc ∗ bigSep Finset.univ fun w : Fin cfg0.W => _)
    ⊢ wp frame (wpE (defs₀ (F := F)) 𝒱₀ c none) Set.univ (bodyAt0 (F := F) t0_0) _
  rw [phi_before]
  unfold Dat.owesAt Pipeline.owesWithin
  iintro ⟨H1, ⟨%W, -, HO⟩, -⟩
  iapply hw
  iapply (h W)
  isplitl [H1]
  · iexact H1
  · iexact HO

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, Hlev, Hcr, -, HG⟩
  ihave Hc := (creds (F := F) c) $$ Hcr
  imodintro
  unfold start arrays
  isplitl
  · isplitl [HG]; · iexact HG
    isplitl [Hc]; · iexact Hc
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_cut c); iexact Hr

theorem phi1_exit (c : Dev nD) :
    (dats m 0 c).Φ (Fin.last cfg0.N) ⊢ iprop((results m c ∗ unscopedSems0 c) ∗ Pipeline.ownSems0 osem c ∗ Pipeline.scopedRest cfg0.spec c) := by
  rw [show (dats m 0 c).Φ (Fin.last cfg0.N) = Φ₁ m c from rfl, ownSems0_eq, unscopedSems0_eq]
  unfold Φ₁
  iintro ⟨R, B, Z, L, S⟩
  isplitl [R B]
  · isplitl [R]; · iexact R
    iexact B
  isplitl [Z L]
  · isplitl [Z]; · iexact Z
    iexact L
  iapply (scratch_join c); iexact S

theorem waits (c : Dev nD) : (levAts L lv : sProp 𝕄) ⊢ Pipeline.cellsWaits cfgs (dats m) () 0 c :=
  Pipeline.cellsWaits_intro cfgs (dats m) () 0 c fun w => w.elim0

/-! ## The run -/

/-- What the final memory of device `c` holds. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ Done m c (s.mem ((c : Thread nD τ).loc main_v1)))
  ∧ ∀ sm : SemLoc sig, sm.isScoped .tc = false → s.sem ((c.tc : Thread nD τ), sm) = 0

theorem results_read (c : Dev nD) (s' : Phys nD τ sig (Elt F)) :
    iprop((results m c ∗ unscopedSems0 c) ∗ emp ∗ SI s') ⊢ |={Set.univ}=> iprop(⌜QY m c s'.mem⌝ ∗ SI s') := by
  unfold results
  iintro ⟨⟨⟨H0, H1, ⟨%f, %hf, H2⟩⟩, Hu⟩, -, HSI⟩
  icombine HSI H0 gives %h0
  icombine HSI H1 gives %h1
  icombine HSI H2 gives %h2
  imod (Pipeline.unscopedSems0_read (X := unscopedSems0 c) (c := c) fupd_intro s') $$ [Hu HSI] with ⟨%hs, HSI⟩
  · isplitl [Hu] <;> iassumption
  imodintro
  isplitr
  · ipureintro
    refine ⟨⟨Buf.eq_of_forall_mem_univ h0, Buf.eq_of_forall_mem_univ h1, ?_⟩, hs⟩
    rw [Buf.eq_of_forall_mem_univ h2]; exact hf
  · iexact HSI

/-- What holds of the final state: on every device the operands as they were and the result in place. -/
def QC : PUnit × MemSt nD τ sig (Elt F) → Prop := fun r => ∀ c : Dev nD,
  r.2.mem ((c : Thread nD τ).loc main_arg0) = m ((c : Thread nD τ).loc main_arg0) ∧ r.2.mem ((c : Thread nD τ).loc main_arg1) = m ((c : Thread nD τ).loc main_arg1)
    ∧ Done m c (r.2.mem ((c : Thread nD τ).loc main_v1))

set_option maxRecDepth 8000 in
/-- On the four devices, for any float values and from any memory with zero counters: every weakly fair execution of the
    program ends, with the operands unchanged, the partial products of the rings summed in the result, and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (own_split _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fun c => iprop(results m c ∗ unscopedSems0 c)) (Z := fun _ => iprop(emp))
    (hX := start_intro m ρ) (hin := phi0_intro m) (hout := phi1_exit m)
    (QY := QY m)
    (hY := results_read m)
    (hQ := fun _ h hs => ⟨fun c => (h c).2.2.1, sem_eq_zero hs fun c => (h c).2.2.2⟩)

end Cert.RingProof
end
end
-- ==== Proof.Value.lean ====
/-
# What the result holds, over the extended reals

The tile of a ring that device `c` ends with is the sum, over the four devices, of the products of their blocks: row
block `c` of each device's columns of the left operand, by the same tile of its rows of the right operand. The
contraction of the whole product is cut into the devices' four blocks, so that the sum is block `c` of the whole product.
-/
module

public import proofs.«01_k».proof.Proof.Launch
public import Idealize.ShloMosaic.Lib.StackMember
public import Idealize.ShloMosaic.Lib.MatmulPlain
public import Idealize.ShloMosaic.Lib.Layout
public import proofs.«01_k».proof.Defs
public import proofs.«01_k».proof.Proof.Gen.ReferenceIdeal.Run

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

abbrev SX : Shape := ⟨2, ![4096, 4096]⟩
abbrev SW : Shape := ⟨2, ![4096, 2048]⟩

/-- Column `q` of tile `t` of ring `b`, among all columns. -/
def col (b : Bool) (t : Fin 2) (q : Fin 512) : Fin 2048 :=
  ⟨(if b then 1024 else 0) + 512 * t.val + q.val, by have := t.isLt; have := q.isLt; cases b <;> simp <;> omega⟩
/-- Position `k` of block `d`, among the 4096 of four blocks of 1024. -/
def pos (d : Dev nD) (k : Fin 1024) : Fin 4096 :=
  ⟨1024 * d.val + k.val, by have h : d.val < 4 := d.isLt; have := k.isLt; omega⟩

variable (X : SX.Idx → EReal) (W : SW.Idx → EReal)

/-- Device `d`'s share of an entry of the whole product. -/
def share (d : Dev nD) (r : Fin 4096) (q : Fin 2048) : EReal := ∑ k : Fin 1024, X (ix2 r (pos d k)) * W (ix2 (pos d k) q)

/-- An entry of the whole product is the sum of the devices' shares. -/
theorem sum_shares (r : Fin 4096) (q : Fin 2048) : ∑ d : Dev nD, share X W d r q = ∑ k : Fin 4096, X (ix2 r k) * W (ix2 k q) := by
  unfold share
  rw [← Fintype.sum_prod_type' (f := fun (d : Dev nD) (k : Fin 1024) => X (ix2 r (pos d k)) * W (ix2 (pos d k) q))]
  refine Fintype.sum_equiv (finProdFinEquiv (m := 4) (n := 1024)) _ _ fun x => ?_
  have : pos x.1 x.2 = finProdFinEquiv (m := 4) (n := 1024) x := Fin.ext (by
    show 1024 * x.1.val + x.2.val = x.2.val + 1024 * x.1.val; omega)
  rw [← this]

/-! ## One block product -/

theorem dotT_apply (A : S1024x1024.Idx → EReal) (B : S1024x512.Idx → EReal) (r : Fin 1024) (q : Fin 512) :
    dotT (F := Ideal) A B (ix2 r q) = ∑ k : Fin 1024, A (ix2 r k) * B (ix2 k q) := by
  have h := Ideal.matmul_plain_apply (M := 1024) (K := 1024) (N := 512) (φ₁ := .f32) (φ₂ := .f32) none A B (constant S1024x512 .f32 0x00000000#32) r q
  refine Eq.trans h ?_
  show Ideal.ofBits .f32 0x00000000#32 + _ = _
  rw [Ideal.ofBits_zero_f32, zero_add]

variable (m : (ℓ : Loc nD τ sig) → Buf (Elt Ideal) ℓ)
  (hX : ∀ c : Dev nD, m ((c : Thread nD τ).loc main_arg0) = Layout.block ⟨2, ![4096, 1024]⟩ SX 1 4 c X)
  (hW : ∀ c : Dev nD, m ((c : Thread nD τ).loc main_arg1) = Layout.block ⟨2, ![1024, 2048]⟩ SW 0 4 c W)

include hX in
theorem xb_apply (c j : Dev nD) (r k : Fin 1024) : xb m c j (ix2 r k) = X (ix2 (pos j r) (pos c k)) := by
  unfold xb
  rw [hX c]
  refine congrArg X (funext fun a => Fin.ext ?_)
  match a with
  | ⟨0, _⟩ => show 1024 * j.val + 1 * r.val = 1024 * j.val + r.val; omega
  | ⟨1, _⟩ => show c.val * 1024 + (0 + 1 * k.val) = 1024 * c.val + k.val; omega

include hW in
theorem wt_apply (c : Dev nD) (b : Bool) (t : Fin 2) (k : Fin 1024) (q : Fin 512) : wt m c b t (ix2 k q) = W (ix2 (pos c k) (col b t q)) := by
  unfold wt
  rw [hW c]
  refine congrArg W (funext fun a => Fin.ext ?_)
  match a with
  | ⟨0, _⟩ => show c.val * 1024 + (0 + 1 * k.val) = 1024 * c.val + k.val; omega
  | ⟨1, _⟩ => show (if b then 1024 else 0) + 512 * t.val + 1 * q.val = (if b then 1024 else 0) + 512 * t.val + q.val; omega

include hX hW in
theorem term_apply (b : Bool) (t : Fin 2) (h : Fin 4) (c : Dev nD) (r : Fin 1024) (q : Fin 512) :
    term m b t h c (ix2 r q) = share X W c (pos (blk b h c) r) (col b t q) := by
  unfold term share
  refine (dotT_apply _ _ r q).trans (Finset.sum_congr rfl fun k _ => ?_)
  rw [xb_apply X m hX, wt_apply W m hW]

/-! ## The sum around a ring -/

theorem around (b : Bool) (c : Dev nD) : blk b 3 c = c ∧ blk b 2 (fwd (!b) c) = c ∧ blk b 1 (fwd (!b) (fwd (!b) c)) = c
    ∧ blk b 0 (fwd (!b) (fwd (!b) (fwd (!b) c))) = c := by revert b c; decide

theorem sum_around {M : Type} [AddCommMonoid M] (g : Dev nD → M) (b : Bool) (c : Dev nD) :
    ((g (fwd (!b) (fwd (!b) (fwd (!b) c))) + g (fwd (!b) (fwd (!b) c))) + g (fwd (!b) c)) + g c = ∑ d : Dev nD, g d := by
  have hu : (Finset.univ : Finset (Dev nD)) = {fwd (!b) (fwd (!b) (fwd (!b) c)), fwd (!b) (fwd (!b) c), fwd (!b) c, c} := by
    revert b c; decide
  have h1 : fwd (!b) (fwd (!b) (fwd (!b) c)) ∉ ({fwd (!b) (fwd (!b) c), fwd (!b) c, c} : Finset (Dev nD)) := by revert b c; decide
  have h2 : fwd (!b) (fwd (!b) c) ∉ ({fwd (!b) c, c} : Finset (Dev nD)) := by revert b c; decide
  have h3 : fwd (!b) c ∉ ({c} : Finset (Dev nD)) := by revert b c; decide
  rw [hu, Finset.sum_insert h1, Finset.sum_insert h2, Finset.sum_insert h3, Finset.sum_singleton, add_assoc, add_assoc]

include hX hW in
/-- The tile a device ends with is that tile of its block of the whole product. -/
theorem part_apply (b : Bool) (t : Fin 2) (c : Dev nD) (r : Fin 1024) (q : Fin 512) :
    part m b t 3 c (ix2 r q) = ∑ k : Fin 4096, X (ix2 (pos c r) k) * W (ix2 k (col b t q)) := by
  obtain ⟨h3, h2, h1, h0⟩ := around b c
  have e (h : Fin 4) (d : Dev nD) (hd : blk b h d = c) : term m b t h d (ix2 r q) = share X W d (pos c r) (col b t q) := by
    rw [term_apply X W m hX hW, hd]
  rw [← sum_shares, ← sum_around (fun d => share X W d (pos c r) (col b t q)) b c, ← e 3 c h3, ← e 2 _ h2, ← e 1 _ h1, ← e 0 _ h0]
  rfl

/-! ## The result array -/

theorem prod_apply (a : Fin 4096) (q : Fin 2048) (d : DotDims SX SW SW) (hd : d = DotDims.plain 4096 4096 2048) :
    Host.dotGeneral (F := Ideal) (φ₁ := .f32) (φ₂ := .f32) d none X W (ix2 a q) = ∑ k : Fin 4096, X (ix2 a k) * W (ix2 k q) := by
  subst hd
  exact StackMember.dotGeneral_plain_apply none X W a q

include hX hW in
/-- What a device ends with is its block of the whole product. -/
theorem value (c : Dev nD) (f : S1024x2048.Idx → EReal) (hf : Done m c f) (d : DotDims SX SW SW) (hd : d = DotDims.plain 4096 4096 2048) :
    f = Layout.block ⟨2, ![1024, 2048]⟩ SW 0 4 c (Host.dotGeneral (F := Ideal) (φ₁ := .f32) (φ₂ := .f32) d none X W) := by
  funext i
  have hq : (i 1).val < 2048 := (i 1).isLt
  obtain ⟨h1, h2⟩ := tileOf_le (i 1).val hq
  have hi : i = (tileR (tileOf (i 1).val).1 (tileOf (i 1).val).2).emb (ix2 (i 0) ⟨(i 1).val - ((if (tileOf (i 1).val).1 then 1024 else 0) + 512 * (tileOf (i 1).val).2.val), by omega⟩) := by
    funext a
    refine Fin.ext ?_
    match a with
    | ⟨0, _⟩ => show (i 0).val = 0 + 1 * (i 0).val; omega
    | ⟨1, _⟩ => show (i 1).val = (if (tileOf (i 1).val).1 then 1024 else 0) + 512 * (tileOf (i 1).val).2.val + 1 * ((i 1).val - ((if (tileOf (i 1).val).1 then 1024 else 0) + 512 * (tileOf (i 1).val).2.val)); omega
  have e := congrFun (hf (tileOf (i 1).val)) (ix2 (i 0) ⟨(i 1).val - ((if (tileOf (i 1).val).1 then 1024 else 0) + 512 * (tileOf (i 1).val).2.val), by omega⟩)
  refine (congrArg f hi).trans (e.trans ((part_apply X W m hX hW _ _ c _ _).trans ?_))
  rw [← prod_apply X W _ _ d hd]
  refine congrArg (Host.dotGeneral (F := Ideal) (φ₁ := .f32) (φ₂ := .f32) d none X W) (funext fun a => Fin.ext ?_)
  match a with
  | ⟨0, _⟩ => show 1024 * c.val + (i 0).val = c.val * 1024 + (i 0).val; omega
  | ⟨1, _⟩ =>
    show (if (tileOf (i 1).val).1 then 1024 else 0) + 512 * (tileOf (i 1).val).2.val + ((i 1).val - ((if (tileOf (i 1).val).1 then 1024 else 0) + 512 * (tileOf (i 1).val).2.val)) = (i 1).val
    omega

/-- Over the extended reals each device ends with its row block of the whole product. -/
theorem algebraic : Cert.algebraic_KernelIdeal_ReferenceIdeal := fun m ρ m' ρ' _ hin =>
  ⟨_, (θ_run (Cert.KernelIdeal.defs (F := Ideal)) _ _).mono
      (fun _ h c => ⟨value _ _ m (fun c => (hin c).1) (fun c => (hin c).2) c _ (h.1 c).2.2
        Cert.ReferenceIdeal.dot_S4096x4096_S4096x2048_S4096x2048_1_0_0_1_n_n rfl, (h.1 c).1, (h.1 c).2.1⟩)
      (run_main (F := Ideal) m ρ),
    (θ_run (Cert.ReferenceIdeal.defs (F := Ideal)) _ _).mono (fun _ h => h 0)
      (Cert.ReferenceIdeal.Value.run (F := Ideal) m' ρ')⟩

end Cert.RingProof
end
end
-- ==== Proof.lean ====
/-
# The certificate

The five claims about the ring kernel, put together: the kernel and its ideal reading run and leave their operands
unchanged with every counter at zero, by one run over any float values (Proof/Launch.lean); the reference runs; and over
the extended reals each device ends with its row block of the whole product (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run at the machine's own floats: the arguments unchanged, every counter zero. Its text and the ideal
    kernel's are the same, and so the one run serves both. -/
theorem frame_kernel : Cert.quiescent_Kernel := fun m ρ _ =>
  (θ_run (Cert.KernelIdeal.defs (F := Bits)) _ _).mono (fun _ h => ⟨fun c => ⟨(h.1 c).1, (h.1 c).2.1⟩, h.2⟩)
    (Cert.RingProof.run_main (F := Bits) m ρ)

/-- The same run over the extended reals. -/
theorem frame_ideal : Cert.quiescent_KernelIdeal := fun m ρ _ =>
  (θ_run (Cert.KernelIdeal.defs (F := Ideal)) _ _).mono (fun _ h => ⟨fun c => ⟨(h.1 c).1, (h.1 c).2.1⟩, h.2⟩)
    (Cert.RingProof.run_main (F := Ideal) m ρ)

/-- The reference writes neither argument, and has no semaphore. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.RingProof.algebraic⟩

end Cert.Proof

end
